-- ==== Defs.lean ====
def Pre_Kernel [hPre_groups_fit : Cert.Pre_groups_fit.Facts] (m : (ℓ : Loc Cert.Kernel.nD Cert.Kernel.τ Cert.Kernel.sig) → Buf (Elt Bits) ℓ) : Prop :=
  ∀ c : Dev Cert.Kernel.nD,
    (Cert.Pre_groups_fit.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))).1 = (fun _ => 1#1)
    ∧ (Cert.Pre_groups_fit.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))).2 = (fun _ => 1#1)

def Pre_KernelIdeal [hPre_groups_fit : Cert.Pre_groups_fit.Facts] (m : (ℓ : Loc Cert.KernelIdeal.nD Cert.KernelIdeal.τ Cert.KernelIdeal.sig) → Buf (Elt Ideal) ℓ) : Prop :=
  ∀ c : Dev Cert.KernelIdeal.nD,
    (Cert.Pre_groups_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_groups_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_KernelIdeal_groups_fit_finite [hPre_groups_fit_finite : Cert.Pre_groups_fit_finite.Facts] (m : (ℓ : Loc Cert.KernelIdeal.nD Cert.KernelIdeal.τ Cert.KernelIdeal.sig) → Buf (Elt Ideal) ℓ) : Prop :=
  ∀ c : Dev Cert.KernelIdeal.nD,
    (Cert.Pre_groups_fit_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_groups_fit_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_groups_fit_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_groups_fit_finite [hPre_groups_fit_finite : Cert.Pre_groups_fit_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_groups_fit_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_groups_fit_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_groups_fit_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def quiescent_Kernel [hKernel : Cert.Kernel.Facts] [hPre_groups_fit : Cert.Pre_groups_fit.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_groups_fit : Cert.Pre_groups_fit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_groups_fit_finite [hKernelIdeal : Cert.KernelIdeal.Facts] [hPre_groups_fit_finite : Cert.Pre_groups_fit_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_groups_fit_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_groups_fit_finite [hReferenceIdeal : Cert.ReferenceIdeal.Facts] [hPre_groups_fit_finite : Cert.Pre_groups_fit_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_groups_fit_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_groups_fit_finite [hKernelIdeal : Cert.KernelIdeal.Facts] [hReferenceIdeal : Cert.ReferenceIdeal.Facts] [hPre_groups_fit_finite : Cert.Pre_groups_fit_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_groups_fit_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_groups_fit : Cert.Pre_groups_fit.Facts) (hPre_groups_fit_finite : Cert.Pre_groups_fit_finite.Facts),
    quiescent_Kernel (hKernel := hKernel) (hPre_groups_fit := hPre_groups_fit)
    ∧ quiescent_KernelIdeal (hKernelIdeal := hKernelIdeal) (hPre_groups_fit := hPre_groups_fit)
    ∧ quiescent_KernelIdeal_pre_groups_fit_finite (hKernelIdeal := hKernelIdeal) (hPre_groups_fit_finite := hPre_groups_fit_finite)
    ∧ quiescent_ReferenceIdeal (hReferenceIdeal := hReferenceIdeal)
    ∧ quiescent_ReferenceIdeal_pre_groups_fit_finite (hReferenceIdeal := hReferenceIdeal) (hPre_groups_fit_finite := hPre_groups_fit_finite)
    ∧ preserves_Kernel_KernelIdeal
    ∧ algebraic_KernelIdeal_ReferenceIdeal_pre_groups_fit_finite (hKernelIdeal := hKernelIdeal) (hReferenceIdeal := hReferenceIdeal) (hPre_groups_fit_finite := hPre_groups_fit_finite)
-- ==== Pre_groups_fit.lean ====
abbrev S6144x1408 : Shape := ⟨2, ![6144, 1408]⟩
abbrev S8 : Shape := ⟨1, ![8]⟩
abbrev S8x5120x1408 : Shape := ⟨3, ![8, 5120, 1408]⟩
abbrev S8x40x11 : Shape := ⟨3, ![8, 40, 11]⟩
abbrev S_ : Shape := ⟨0, ![]⟩

class Facts : Prop where
  bcast_S_S8 : S_.BroadcastsInDim S8 (![] : Fin 0 → Fin S8.rank)
  reducesTo_S8_S_d0 : S8.ReducesTo [0] S_
  h_S_ : 0 < S_.numel

variable [Facts]

def fn {F : FTy → Type} [FloatOps F] (main_arg0 : FVec F S6144x1408 .bf16) (main_arg1 : IVec S8 32) (main_arg2 : FVec F S8x5120x1408 .fp8e4m3) (main_arg3 : FVec F S8x40x11 .f32) : IVec S8 1 × IVec S_ 1 :=
  let main_c : IVec S_ 32 := constantI S_ 32 0#32
  let main_v0 : IVec S8 32 := broadcastInDim S8 ![] bcast_S_S8 main_c
  let main_v1 : IVec S8 1 := cmpi .sge main_arg1 main_v0
  let main_c_0 : IVec S_ 32 := constantI S_ 32 6144#32
  let main_v2 : IVec S8 32 := broadcastInDim S8 ![] bcast_S_S8 main_c_0
  let main_v3 : IVec S8 1 := cmpi .sle main_arg1 main_v2
  let main_v4 : IVec S8 1 := andi main_v1 main_v3
  let main_c_1 : IVec S_ 32 := constantI S_ 32 0#32
  let main_v5 : IVec S_ 32 := (fun x v => Host.reduce IntOp.addi x v reducesTo_S8_S_d0 h_S_) main_arg1 main_c_1
  let main_c_2 : IVec S_ 32 := constantI S_ 32 6144#32
  let main_v6 : IVec S_ 1 := cmpi .eq main_v5 main_c_2
  (main_v4, main_v6)
-- ==== Pre_groups_fit_finite.lean ====
abbrev S6144x1408 : Shape := ⟨2, ![6144, 1408]⟩
abbrev S8 : Shape := ⟨1, ![8]⟩
abbrev S8x5120x1408 : Shape := ⟨3, ![8, 5120, 1408]⟩
abbrev S8x40x11 : Shape := ⟨3, ![8, 40, 11]⟩
abbrev S_ : Shape := ⟨0, ![]⟩

class Facts : Prop where
  bcast_S_S8 : S_.BroadcastsInDim S8 (![] : Fin 0 → Fin S8.rank)
  reducesTo_S8_S_d0 : S8.ReducesTo [0] S_
  h_S_ : 0 < S_.numel
  bcast_S_S6144x1408 : S_.BroadcastsInDim S6144x1408 (![] : Fin 0 → Fin S6144x1408.rank)

variable [Facts]

def fn {F : FTy → Type} [FloatOps F] (main_arg0 : FVec F S6144x1408 .bf16) (main_arg1 : IVec S8 32) (main_arg2 : FVec F S8x5120x1408 .fp8e4m3) (main_arg3 : FVec F S8x40x11 .f32) : IVec S8 1 × IVec S_ 1 × IVec S6144x1408 1 :=
  let main_c : IVec S_ 32 := constantI S_ 32 0#32
  let main_v0 : IVec S8 32 := broadcastInDim S8 ![] bcast_S_S8 main_c
  let main_v1 : IVec S8 1 := cmpi .sge main_arg1 main_v0
  let main_c_0 : IVec S_ 32 := constantI S_ 32 6144#32
  let main_v2 : IVec S8 32 := broadcastInDim S8 ![] bcast_S_S8 main_c_0
  let main_v3 : IVec S8 1 := cmpi .sle main_arg1 main_v2
  let main_v4 : IVec S8 1 := andi main_v1 main_v3
  let main_c_1 : IVec S_ 32 := constantI S_ 32 0#32
  let main_v5 : IVec S_ 32 := (fun x v => Host.reduce IntOp.addi x v reducesTo_S8_S_d0 h_S_) main_arg1 main_c_1
  let main_c_2 : IVec S_ 32 := constantI S_ 32 6144#32
  let main_v6 : IVec S_ 1 := cmpi .eq main_v5 main_c_2
  let main_v7 : FVec F S6144x1408 .bf16 := Host.absf main_arg0
  let main_cst : FVec F S_ .bf16 := constant S_ .bf16 0x7F7F#16
  let main_v8 : FVec F S6144x1408 .bf16 := broadcastInDim S6144x1408 ![] bcast_S_S6144x1408 main_cst
  let main_v9 : IVec S6144x1408 1 := cmpf .ole main_v7 main_v8
  (main_v4, main_v6, main_v9)
-- ==== Kernel.lean ====
abbrev S6144x1408 : Shape := ⟨2, ![6144, 1408]⟩
abbrev S8 : Shape := ⟨1, ![8]⟩
abbrev S8x5120x1408 : Shape := ⟨3, ![8, 5120, 1408]⟩
abbrev S8x40x11 : Shape := ⟨3, ![8, 40, 11]⟩
abbrev S_ : Shape := ⟨0, ![]⟩
abbrev S19 : Shape := ⟨1, ![19]⟩
abbrev S1 : Shape := ⟨1, ![1]⟩
abbrev S1x19 : Shape := ⟨2, ![1, 19]⟩
abbrev S8x1 : Shape := ⟨2, ![8, 1]⟩
abbrev S8x19 : Shape := ⟨2, ![8, 19]⟩
abbrev S19x1 : Shape := ⟨2, ![19, 1]⟩
abbrev S3520 : Shape := ⟨1, ![3520]⟩
abbrev S6144x5120 : Shape := ⟨2, ![6144, 5120]⟩
abbrev S512x1408 : Shape := ⟨2, ![512, 1408]⟩
abbrev S1x512x1408 : Shape := ⟨3, ![1, 512, 1408]⟩
abbrev S512x512 : Shape := ⟨2, ![512, 512]⟩
abbrev S512 : Shape := ⟨1, ![512]⟩
abbrev S512x1 : Shape := ⟨2, ![512, 1]⟩
abbrev S128x128 : Shape := ⟨2, ![128, 128]⟩
abbrev S1x128x128 : Shape := ⟨3, ![1, 128, 128]⟩
abbrev S128x1408 : Shape := ⟨2, ![128, 1408]⟩

abbrev nBuf : Space → Nat
  | .hbm => 173
  | .vmem => 6
  | .smem => 6
  | _ => 0

abbrev hbmTy0_0 (i : Nat) : BufTy := match i % 128 with
  | 0 => ⟨S6144x1408, .bf16⟩
  | 1 => ⟨S8, .i32⟩
  | 2 => ⟨S8x5120x1408, .fp8e4m3⟩
  | 3 => ⟨S8x40x11, .f32⟩
  | 4 => ⟨S_, .i32⟩
  | 5 => ⟨S_, .i32⟩
  | 6 => ⟨S8, .i32⟩
  | 7 => ⟨S8, .i32⟩
  | 8 => ⟨S_, .i32⟩
  | 9 => ⟨S8, .i32⟩
  | 10 => ⟨S8, .i1⟩
  | 11 => ⟨S_, .i32⟩
  | 12 => ⟨S8, .i32⟩
  | 13 => ⟨S8, .i32⟩
  | 14 => ⟨S_, .i32⟩
  | 15 => ⟨S8, .i32⟩
  | 16 => ⟨S8, .i32⟩
  | 17 => ⟨S_, .i32⟩
  | 18 => ⟨S_, .i32⟩
  | 19 => ⟨S8, .i32⟩
  | 20 => ⟨S8, .i32⟩
  | 21 => ⟨S8, .i32⟩
  | 22 => ⟨S_, .i32⟩
  | 23 => ⟨S8, .i32⟩
  | 24 => ⟨S8, .i1⟩
  | 25 => ⟨S8, .i32⟩
  | 26 => ⟨S8, .i32⟩
  | 27 => ⟨S_, .i32⟩
  | 28 => ⟨S8, .i32⟩
  | 29 => ⟨S8, .i1⟩
  | 30 => ⟨S8, .i1⟩
  | 31 => ⟨S_, .i32⟩
  | 32 => ⟨S8, .i32⟩
  | 33 => ⟨S8, .i32⟩
  | 34 => ⟨S8, .i32⟩
  | 35 => ⟨S_, .i32⟩
  | 36 => ⟨S_, .i32⟩
  | 37 => ⟨S8, .i32⟩
  | 38 => ⟨S8, .i32⟩
  | 39 => ⟨S8, .i32⟩
  | 40 => ⟨S_, .i32⟩
  | 41 => ⟨S8, .i32⟩
  | 42 => ⟨S8, .i1⟩
  | 43 => ⟨S8, .i32⟩
  | 44 => ⟨S8, .i32⟩
  | 45 => ⟨S_, .i32⟩
  | 46 => ⟨S8, .i32⟩
  | 47 => ⟨S8, .i1⟩
  | 48 => ⟨S8, .i1⟩
  | 49 => ⟨S_, .i32⟩
  | 50 => ⟨S8, .i32⟩
  | 51 => ⟨S8, .i32⟩
  | 52 => ⟨S8, .i32⟩
  | 53 => ⟨S8, .i32⟩
  | 54 => ⟨S_, .i32⟩
  | 55 => ⟨S_, .i32⟩
  | 56 => ⟨S8, .i32⟩
  | 57 => ⟨S8, .i32⟩
  | 58 => ⟨S_, .i32⟩
  | 59 => ⟨S_, .i32⟩
  | 60 => ⟨S8, .i32⟩
  | 61 => ⟨S19, .i32⟩
  | 62 => ⟨S1, .i32⟩
  | 63 => ⟨S_, .i32⟩
  | 64 => ⟨S_, .i32⟩
  | 65 => ⟨S_, .i32⟩
  | 66 => ⟨S19, .i32⟩
  | 67 => ⟨S19, .i32⟩
  | 68 => ⟨S1x19, .i32⟩
  | 69 => ⟨S8x1, .i32⟩
  | 70 => ⟨S8x19, .i32⟩
  | 71 => ⟨S8x19, .i32⟩
  | 72 => ⟨S8x19, .i1⟩
  | 73 => ⟨S8x19, .i32⟩
  | 74 => ⟨S_, .i32⟩
  | 75 => ⟨S_, .i32⟩
  | 76 => ⟨S19, .i32⟩
  | 77 => ⟨S19, .i1⟩
  | 78 => ⟨S_, .i32⟩
  | 79 => ⟨S19, .i32⟩
  | 80 => ⟨S19, .i32⟩
  | 81 => ⟨S19, .i32⟩
  | 82 => ⟨S19x1, .i32⟩
  | 83 => ⟨S19, .i32⟩
  | 84 => ⟨S_, .i32⟩
  | 85 => ⟨S_, .i32⟩
  | 86 => ⟨S19, .i32⟩
  | 87 => ⟨S19, .i32⟩
  | 88 => ⟨S19, .i32⟩
  | 89 => ⟨S_, .i32⟩
  | 90 => ⟨S19, .i32⟩
  | 91 => ⟨S19, .i1⟩
  | 92 => ⟨S19, .i32⟩
  | 93 => ⟨S19, .i32⟩
  | 94 => ⟨S_, .i32⟩
  | 95 => ⟨S19, .i32⟩
  | 96 => ⟨S19, .i1⟩
  | 97 => ⟨S19, .i1⟩
  | 98 => ⟨S_, .i32⟩
  | 99 => ⟨S19, .i32⟩
  | 100 => ⟨S19, .i32⟩
  | 101 => ⟨S19, .i32⟩
  | 102 => ⟨S19, .i32⟩
  | 103 => ⟨S_, .i32⟩
  | 104 => ⟨S19, .i32⟩
  | 105 => ⟨S19, .i1⟩
  | 106 => ⟨S_, .i32⟩
  | 107 => ⟨S19, .i32⟩
  | 108 => ⟨S19, .i32⟩
  | 109 => ⟨S19, .i32⟩
  | 110 => ⟨S19x1, .i32⟩
  | 111 => ⟨S19, .i32⟩
  | 112 => ⟨S_, .i32⟩
  | 113 => ⟨S19, .i32⟩
  | 114 => ⟨S19, .i1⟩
  | 115 => ⟨S_, .i32⟩
  | 116 => ⟨S19, .i32⟩
  | 117 => ⟨S19, .i32⟩
  | 118 => ⟨S19, .i32⟩
  | 119 => ⟨S19x1, .i32⟩
  | 120 => ⟨S19, .i32⟩
  | 121 => ⟨S19, .i32⟩
  | 122 => ⟨S_, .i32⟩
  | 123 => ⟨S19, .i32⟩
  | 124 => ⟨S19, .i1⟩
  | 125 => ⟨S_, .i32⟩
  | 126 => ⟨S19, .i32⟩
  | 127 => ⟨S19, .i32⟩
  | _ => ⟨S6144x1408, .bf16⟩

abbrev hbmTy0_1 (i : Nat) : BufTy := match i % 128 with
  | 0 => ⟨S19, .i32⟩
  | 1 => ⟨S19x1, .i32⟩
  | 2 => ⟨S19, .i32⟩
  | 3 => ⟨S_, .i32⟩
  | 4 => ⟨S19, .i32⟩
  | 5 => ⟨S19, .i32⟩
  | 6 => ⟨S19, .i32⟩
  | 7 => ⟨S_, .i32⟩
  | 8 => ⟨S_, .i32⟩
  | 9 => ⟨S_, .i32⟩
  | 10 => ⟨S19, .i32⟩
  | 11 => ⟨S19, .i32⟩
  | 12 => ⟨S_, .i32⟩
  | 13 => ⟨S19, .i32⟩
  | 14 => ⟨S_, .i32⟩
  | 15 => ⟨S19, .i32⟩
  | 16 => ⟨S19, .i1⟩
  | 17 => ⟨S_, .i32⟩
  | 18 => ⟨S19, .i32⟩
  | 19 => ⟨S19, .i32⟩
  | 20 => ⟨S19, .i32⟩
  | 21 => ⟨S19x1, .i32⟩
  | 22 => ⟨S19, .i32⟩
  | 23 => ⟨S_, .i32⟩
  | 24 => ⟨S19, .i32⟩
  | 25 => ⟨S19, .i32⟩
  | 26 => ⟨S19, .i32⟩
  | 27 => ⟨S_, .i32⟩
  | 28 => ⟨S_, .i32⟩
  | 29 => ⟨S_, .i32⟩
  | 30 => ⟨S19, .i32⟩
  | 31 => ⟨S19, .i32⟩
  | 32 => ⟨S_, .i32⟩
  | 33 => ⟨S19, .i32⟩
  | 34 => ⟨S19, .i32⟩
  | 35 => ⟨S1, .i32⟩
  | 36 => ⟨S_, .i32⟩
  | 37 => ⟨S19, .i32⟩
  | 38 => ⟨S19, .i1⟩
  | 39 => ⟨S_, .i32⟩
  | 40 => ⟨S_, .i32⟩
  | 41 => ⟨S19, .i32⟩
  | 42 => ⟨S_, .i32⟩
  | 43 => ⟨S3520, .f32⟩
  | 44 => ⟨S6144x5120, .bf16⟩
  | _ => ⟨S6144x1408, .bf16⟩

abbrev hbmTy (i : Nat) : BufTy := match i / 128 with
  | 0 => hbmTy0_0 i
  | 1 => hbmTy0_1 i
  | _ => ⟨S6144x1408, .bf16⟩

abbrev bufTy : (tb : Table) → Fin (tcTables nBuf tb) → BufTy
  | .hbm, ⟨i, _⟩ => hbmTy i
  | .local _ .vmem, ⟨0, _⟩ => ⟨S512x1408, .bf16⟩
  | .local _ .vmem, ⟨1, _⟩ => ⟨S512x1408, .bf16⟩
  | .local _ .vmem, ⟨2, _⟩ => ⟨S1x512x1408, .fp8e4m3⟩
  | .local _ .vmem, ⟨3, _⟩ => ⟨S1x512x1408, .fp8e4m3⟩
  | .local _ .vmem, ⟨4, _⟩ => ⟨S512x512, .bf16⟩
  | .local _ .vmem, ⟨5, _⟩ => ⟨S512x512, .bf16⟩
  | .local _ .smem, ⟨0, _⟩ => ⟨S19, .i32⟩
  | .local _ .smem, ⟨1, _⟩ => ⟨S19, .i32⟩
  | .local _ .smem, ⟨2, _⟩ => ⟨S19, .i32⟩
  | .local _ .smem, ⟨3, _⟩ => ⟨S19, .i32⟩
  | .local _ .smem, ⟨4, _⟩ => ⟨S19, .i32⟩
  | .local _ .smem, ⟨5, _⟩ => ⟨S3520, .f32⟩
  | _, _ => ⟨S6144x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨5, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_call0_c : Ref sig .tc := ⟨.hbm, 4, rfl⟩
abbrev main_call0_call0_v0 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_c_2 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_call1_v5 : Ref sig .tc := ⟨.hbm, 23, rfl⟩
abbrev main_call1_v6 : Ref sig .tc := ⟨.hbm, 24, rfl⟩
abbrev main_call1_v7 : Ref sig .tc := ⟨.hbm, 25, rfl⟩
abbrev main_call1_v8 : Ref sig .tc := ⟨.hbm, 26, rfl⟩
abbrev main_call1_c : Ref sig .tc := ⟨.hbm, 27, rfl⟩
abbrev main_call1_v9 : Ref sig .tc := ⟨.hbm, 28, rfl⟩
abbrev main_call1_v10 : Ref sig .tc := ⟨.hbm, 29, rfl⟩
abbrev main_call1_v11 : Ref sig .tc := ⟨.hbm, 30, rfl⟩
abbrev main_call1_c_0 : Ref sig .tc := ⟨.hbm, 31, rfl⟩
abbrev main_call1_v12 : Ref sig .tc := ⟨.hbm, 32, rfl⟩
abbrev main_call1_v13 : Ref sig .tc := ⟨.hbm, 33, rfl⟩
abbrev main_v8 : Ref sig .tc := ⟨.hbm, 34, rfl⟩
abbrev main_c_3 : Ref sig .tc := ⟨.hbm, 35, rfl⟩
abbrev main_call2_v0 : Ref sig .tc := ⟨.hbm, 36, rfl⟩
abbrev main_call2_v1 : Ref sig .tc := ⟨.hbm, 37, rfl⟩
abbrev main_call2_v2 : Ref sig .tc := ⟨.hbm, 38, rfl⟩
abbrev main_call2_v3 : Ref sig .tc := ⟨.hbm, 39, rfl⟩
abbrev main_call2_v4 : Ref sig .tc := ⟨.hbm, 40, rfl⟩
abbrev main_call2_v5 : Ref sig .tc := ⟨.hbm, 41, rfl⟩
abbrev main_call2_v6 : Ref sig .tc := ⟨.hbm, 42, rfl⟩
abbrev main_call2_v7 : Ref sig .tc := ⟨.hbm, 43, rfl⟩
abbrev main_call2_v8 : Ref sig .tc := ⟨.hbm, 44, rfl⟩
abbrev main_call2_c : Ref sig .tc := ⟨.hbm, 45, rfl⟩
abbrev main_call2_v9 : Ref sig .tc := ⟨.hbm, 46, rfl⟩
abbrev main_call2_v10 : Ref sig .tc := ⟨.hbm, 47, rfl⟩
abbrev main_call2_v11 : Ref sig .tc := ⟨.hbm, 48, rfl⟩
abbrev main_call2_c_0 : Ref sig .tc := ⟨.hbm, 49, rfl⟩
abbrev main_call2_v12 : Ref sig .tc := ⟨.hbm, 50, rfl⟩
abbrev main_call2_v13 : Ref sig .tc := ⟨.hbm, 51, rfl⟩
abbrev main_v9 : Ref sig .tc := ⟨.hbm, 52, rfl⟩
abbrev main_v10 : Ref sig .tc := ⟨.hbm, 53, rfl⟩
abbrev main_c_4 : Ref sig .tc := ⟨.hbm, 54, rfl⟩
abbrev main_call3_v0 : Ref sig .tc := ⟨.hbm, 55, rfl⟩
abbrev main_call3_v1 : Ref sig .tc := ⟨.hbm, 56, rfl⟩
abbrev main_v11 : Ref sig .tc := ⟨.hbm, 57, rfl⟩
abbrev main_call4_call0_c : Ref sig .tc := ⟨.hbm, 58, rfl⟩
abbrev main_call4_call0_v0 : Ref sig .tc := ⟨.hbm, 59, rfl⟩
abbrev main_v12 : Ref sig .tc := ⟨.hbm, 60, rfl⟩
abbrev main_v13 : Ref sig .tc := ⟨.hbm, 61, rfl⟩
abbrev main_v14 : Ref sig .tc := ⟨.hbm, 62, rfl⟩
abbrev main_v15 : Ref sig .tc := ⟨.hbm, 63, rfl⟩
abbrev main_c_5 : Ref sig .tc := ⟨.hbm, 64, rfl⟩
abbrev main_v16 : Ref sig .tc := ⟨.hbm, 65, rfl⟩
abbrev main_v17 : Ref sig .tc := ⟨.hbm, 66, rfl⟩
abbrev main_v18 : Ref sig .tc := ⟨.hbm, 67, rfl⟩
abbrev main_call5_call0_v0 : Ref sig .tc := ⟨.hbm, 68, rfl⟩
abbrev main_call5_call0_v1 : Ref sig .tc := ⟨.hbm, 69, rfl⟩
abbrev main_call5_call0_v2 : Ref sig .tc := ⟨.hbm, 70, rfl⟩
abbrev main_call5_call0_v3 : Ref sig .tc := ⟨.hbm, 71, rfl⟩
abbrev main_call5_call0_v4 : Ref sig .tc := ⟨.hbm, 72, rfl⟩
abbrev main_call5_call0_v5 : Ref sig .tc := ⟨.hbm, 73, rfl⟩
abbrev main_call5_call0_c : Ref sig .tc := ⟨.hbm, 74, rfl⟩
abbrev main_c_6 : Ref sig .tc := ⟨.hbm, 75, rfl⟩
abbrev main_v20 : Ref sig .tc := ⟨.hbm, 76, rfl⟩
abbrev main_v21 : Ref sig .tc := ⟨.hbm, 77, rfl⟩
abbrev main_c_7 : Ref sig .tc := ⟨.hbm, 78, rfl⟩
abbrev main_v22 : Ref sig .tc := ⟨.hbm, 79, rfl⟩
abbrev main_v23 : Ref sig .tc := ⟨.hbm, 80, rfl⟩
abbrev main_v24 : Ref sig .tc := ⟨.hbm, 81, rfl⟩
abbrev main_v25 : Ref sig .tc := ⟨.hbm, 82, rfl⟩
abbrev main_v26 : Ref sig .tc := ⟨.hbm, 83, rfl⟩
abbrev main_c_8 : Ref sig .tc := ⟨.hbm, 84, rfl⟩
abbrev main_call6_v0 : Ref sig .tc := ⟨.hbm, 85, rfl⟩
abbrev main_call6_v1 : Ref sig .tc := ⟨.hbm, 86, rfl⟩
abbrev main_call6_v2 : Ref sig .tc := ⟨.hbm, 87, rfl⟩
abbrev main_call6_v3 : Ref sig .tc := ⟨.hbm, 88, rfl⟩
abbrev main_call6_v4 : Ref sig .tc := ⟨.hbm, 89, rfl⟩
abbrev main_call6_v5 : Ref sig .tc := ⟨.hbm, 90, rfl⟩
abbrev main_call6_v6 : Ref sig .tc := ⟨.hbm, 91, rfl⟩
abbrev main_call6_v7 : Ref sig .tc := ⟨.hbm, 92, rfl⟩
abbrev main_call6_v8 : Ref sig .tc := ⟨.hbm, 93, rfl⟩
abbrev main_call6_c : Ref sig .tc := ⟨.hbm, 94, rfl⟩
abbrev main_call6_v9 : Ref sig .tc := ⟨.hbm, 95, rfl⟩
abbrev main_call6_v10 : Ref sig .tc := ⟨.hbm, 96, rfl⟩
abbrev main_call6_v11 : Ref sig .tc := ⟨.hbm, 97, rfl⟩
abbrev main_call6_c_0 : Ref sig .tc := ⟨.hbm, 98, rfl⟩
abbrev main_call6_v12 : Ref sig .tc := ⟨.hbm, 99, rfl⟩
abbrev main_call6_v13 : Ref sig .tc := ⟨.hbm, 100, rfl⟩
abbrev main_v27 : Ref sig .tc := ⟨.hbm, 101, rfl⟩
abbrev main_v28 : Ref sig .tc := ⟨.hbm, 102, rfl⟩
abbrev main_c_9 : Ref sig .tc := ⟨.hbm, 103, rfl⟩
abbrev main_v29 : Ref sig .tc := ⟨.hbm, 104, rfl⟩
abbrev main_v30 : Ref sig .tc := ⟨.hbm, 105, rfl⟩
abbrev main_c_10 : Ref sig .tc := ⟨.hbm, 106, rfl⟩
abbrev main_v31 : Ref sig .tc := ⟨.hbm, 107, rfl⟩
abbrev main_v32 : Ref sig .tc := ⟨.hbm, 108, rfl⟩
abbrev main_v33 : Ref sig .tc := ⟨.hbm, 109, rfl⟩
abbrev main_v34 : Ref sig .tc := ⟨.hbm, 110, rfl⟩
abbrev main_v35 : Ref sig .tc := ⟨.hbm, 111, rfl⟩
abbrev main_c_11 : Ref sig .tc := ⟨.hbm, 112, rfl⟩
abbrev main_v36 : Ref sig .tc := ⟨.hbm, 113, rfl⟩
abbrev main_v37 : Ref sig .tc := ⟨.hbm, 114, rfl⟩
abbrev main_c_12 : Ref sig .tc := ⟨.hbm, 115, rfl⟩
abbrev main_v38 : Ref sig .tc := ⟨.hbm, 116, rfl⟩
abbrev main_v39 : Ref sig .tc := ⟨.hbm, 117, rfl⟩
abbrev main_v40 : Ref sig .tc := ⟨.hbm, 118, rfl⟩
abbrev main_v41 : Ref sig .tc := ⟨.hbm, 119, rfl⟩
abbrev main_v42 : Ref sig .tc := ⟨.hbm, 120, rfl⟩
abbrev main_v43 : Ref sig .tc := ⟨.hbm, 121, rfl⟩
abbrev main_c_13 : Ref sig .tc := ⟨.hbm, 122, rfl⟩
abbrev main_v45 : Ref sig .tc := ⟨.hbm, 123, rfl⟩
abbrev main_v46 : Ref sig .tc := ⟨.hbm, 124, rfl⟩
abbrev main_c_14 : Ref sig .tc := ⟨.hbm, 125, rfl⟩
abbrev main_v47 : Ref sig .tc := ⟨.hbm, 126, rfl⟩
abbrev main_v48 : Ref sig .tc := ⟨.hbm, 127, rfl⟩
abbrev main_v49 : Ref sig .tc := ⟨.hbm, 128, rfl⟩
abbrev main_v50 : Ref sig .tc := ⟨.hbm, 129, rfl⟩
abbrev main_v51 : Ref sig .tc := ⟨.hbm, 130, rfl⟩
abbrev main_c_15 : Ref sig .tc := ⟨.hbm, 131, rfl⟩
abbrev main_v52 : Ref sig .tc := ⟨.hbm, 132, rfl⟩
abbrev main_v53 : Ref sig .tc := ⟨.hbm, 133, rfl⟩
abbrev main_v54 : Ref sig .tc := ⟨.hbm, 134, rfl⟩
abbrev main_c_16 : Ref sig .tc := ⟨.hbm, 135, rfl⟩
abbrev main_c_17 : Ref sig .tc := ⟨.hbm, 136, rfl⟩
abbrev main_call7_v0 : Ref sig .tc := ⟨.hbm, 137, rfl⟩
abbrev main_call7_v1 : Ref sig .tc := ⟨.hbm, 138, rfl⟩
abbrev main_call7_v2 : Ref sig .tc := ⟨.hbm, 139, rfl⟩
abbrev main_call7_v3 : Ref sig .tc := ⟨.hbm, 140, rfl⟩
abbrev main_call7_v4 : Ref sig .tc := ⟨.hbm, 141, rfl⟩
abbrev main_c_18 : Ref sig .tc := ⟨.hbm, 142, rfl⟩
abbrev main_v56 : Ref sig .tc := ⟨.hbm, 143, rfl⟩
abbrev main_v57 : Ref sig .tc := ⟨.hbm, 144, rfl⟩
abbrev main_c_19 : Ref sig .tc := ⟨.hbm, 145, rfl⟩
abbrev main_v58 : Ref sig .tc := ⟨.hbm, 146, rfl⟩
abbrev main_v59 : Ref sig .tc := ⟨.hbm, 147, rfl⟩
abbrev main_v60 : Ref sig .tc := ⟨.hbm, 148, rfl⟩
abbrev main_v61 : Ref sig .tc := ⟨.hbm, 149, rfl⟩
abbrev main_v62 : Ref sig .tc := ⟨.hbm, 150, rfl⟩
abbrev main_c_20 : Ref sig .tc := ⟨.hbm, 151, rfl⟩
abbrev main_v63 : Ref sig .tc := ⟨.hbm, 152, rfl⟩
abbrev main_v64 : Ref sig .tc := ⟨.hbm, 153, rfl⟩
abbrev main_v65 : Ref sig .tc := ⟨.hbm, 154, rfl⟩
abbrev main_c_21 : Ref sig .tc := ⟨.hbm, 155, rfl⟩
abbrev main_c_22 : Ref sig .tc := ⟨.hbm, 156, rfl⟩
abbrev main_call8_v0 : Ref sig .tc := ⟨.hbm, 157, rfl⟩
abbrev main_call8_v1 : Ref sig .tc := ⟨.hbm, 158, rfl⟩
abbrev main_call8_v2 : Ref sig .tc := ⟨.hbm, 159, rfl⟩
abbrev main_call8_v3 : Ref sig .tc := ⟨.hbm, 160, rfl⟩
abbrev main_call8_v4 : Ref sig .tc := ⟨.hbm, 161, rfl⟩
abbrev main_v66 : Ref sig .tc := ⟨.hbm, 162, rfl⟩
abbrev main_v67 : Ref sig .tc := ⟨.hbm, 163, rfl⟩
abbrev main_v68 : Ref sig .tc := ⟨.hbm, 164, rfl⟩
abbrev main_v69 : Ref sig .tc := ⟨.hbm, 165, rfl⟩
abbrev main_v70 : Ref sig .tc := ⟨.hbm, 166, rfl⟩
abbrev main_c_23 : Ref sig .tc := ⟨.hbm, 167, rfl⟩
abbrev main_call9_v0 : Ref sig .tc := ⟨.hbm, 168, rfl⟩
abbrev main_call9_v1 : Ref sig .tc := ⟨.hbm, 169, rfl⟩
abbrev main_c_24 : Ref sig .tc := ⟨.hbm, 170, rfl⟩
abbrev main_v73 : Ref sig .tc := ⟨.hbm, 171, rfl⟩
abbrev main_v74 : Ref sig .tc := ⟨.hbm, 172, rfl⟩
abbrev main_v19 : Ref sig .tc := ⟨.smem, 0, rfl⟩
abbrev main_v44 : Ref sig .tc := ⟨.smem, 1, rfl⟩
abbrev main_v72 : Ref sig .tc := ⟨.smem, 2, rfl⟩
abbrev main_v55 : Ref sig .tc := ⟨.smem, 3, rfl⟩
abbrev main_v71 : Ref sig .tc := ⟨.smem, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg0_0 : Ref sig .tc := ⟨.smem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![10, 19], ![false, false]⟩

abbrev pre0 : Pipeline.Prefetch sig := ⟨5, ![main_v19.idx, main_v44.idx, main_v72.idx, main_v55.idx, main_v71.idx], fun | 0 => main_v19.names | 1 => main_v44.names | 2 => main_v72.names | 3 => main_v55.names | 4 => main_v71.names | ⟨_ + 5, h⟩ => absurd h (Nat.not_lt.2 (Nat.le_add_left _ _)), fun | 0 => rfl | 1 => rfl | 2 => rfl | 3 => rfl | 4 => rfl | ⟨_ + 5, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) (v1 : BitVec 32) (c0_i32_18 : BitVec 32) (c0_i32_19 : BitVec 32) : Fin 1 → Nat :=
  let c40_i32 : BitVec 32 := 40#32
  let v97 : BitVec 32 := Scalar.muli v1 c40_i32
  let arg0 : BitVec 32 := BitVec.ofNat 32 (i 0).val
  let c4_i32_17 : BitVec 32 := 4#32
  let v98 : BitVec 32 := Scalar.muli arg0 c4_i32_17
  let v99 : BitVec 32 := Scalar.addi v97 v98
  let v100 : BitVec 32 := Scalar.addi v99 c0_i32_18
  let c11_i32 : BitVec 32 := 11#32
  let v101 : BitVec 32 := Scalar.muli v100 c11_i32
  let v102 : BitVec 32 := Scalar.addi v101 c0_i32_19
  let v103 : Index := Scalar.indexCast v102
  ![v103.toNat]
def k0_cond1 (v3 : BitVec 32) (v5 : BitVec 32) : BitVec 1 :=
  let v6 : BitVec 1 := Scalar.cmpi .sgt v3 v5
  let v7 : BitVec 32 := Scalar.extui v6
  let c0_i32 : BitVec 32 := 0#32
  let v8 : BitVec 1 := Scalar.cmpi .ne v7 c0_i32
  v8

def k0_chk1 (i : grid0.Coords) (v1 : BitVec 32) (v3 : BitVec 32) (v5 : BitVec 32) : Prop :=
  (∀ (k0_h1 : k0_cond1 v3 v5 = 1#1), ∀ (r₁ : Fin 4) (r₂ : Fin 11), ∀ a, (k0_off2 i v1 (BitVec.ofNat 32 r₁.val) (BitVec.ofNat 32 r₂.val)) a + S1.size a ≤ S3520.size a)
theorem k0_off2_inb : ∀ (i : grid0.Coords) (v1 : BitVec 32) (v3 : BitVec 32) (v5 : BitVec 32) (k0_hw1 : k0_chk1 i v1 v3 v5), ∀ (k0_h1 : k0_cond1 v3 v5 = 1#1), ∀ (r₁ : Fin 4) (r₂ : Fin 11), ∀ a, (k0_off2 i v1 (BitVec.ofNat 32 r₁.val) (BitVec.ofNat 32 r₂.val)) a + S1.size a ≤ S3520.size a := fun i v1 v3 v5 k0_hw1 k0_h1 r₁ r₂ => k0_hw1 k0_h1 r₁ r₂

def k0_off3 (i : grid0.Coords) : Fin 1 → Nat :=
  let arg1 : BitVec 32 := BitVec.ofNat 32 (i 1).val
  let v723 : Index := Scalar.indexCast arg1
  ![v723.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (k0_off1_inb : ∀ i : grid0.Coords, ∀ a, (k0_off1 i) a + S1.size a ≤ S19.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S19) ![v0.toNat] S1.size (k0_off1_inb i)) numel1_S1
  let c0_i32 : BitVec 32 := 0#32
  let c0_i32_0 : BitVec 32 := 0#32
  ![v1.toNat, c0_i32.toNat]

def cc0_transform_2 (k0_off1_inb : ∀ i : grid0.Coords, ∀ a, (k0_off1 i) a + S1.size a ≤ S19.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S19) ![v0.toNat] S1.size (k0_off1_inb i)) numel1_S1
  let c0_i32 : BitVec 32 := 0#32
  let c0_i32_0 : BitVec 32 := 0#32
  ![v1.toNat, arg0.toNat, c0_i32.toNat]

def cc0_transform_3 (k0_off1_inb : ∀ i : grid0.Coords, ∀ a, (k0_off1 i) a + S1.size a ≤ S19.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S19) ![v0.toNat] S1.size (k0_off1_inb i)) numel1_S1
  let c0_i32 : BitVec 32 := 0#32
  ![v1.toNat, arg0.toNat]

abbrev stage0_0 : Fin 1 → Memref sig .tc .smem S3520 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x1408 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S6144x1408 : Shape := ⟨2, ![6144, 1408]⟩
abbrev S8 : Shape := ⟨1, ![8]⟩
abbrev S8x5120x1408 : Shape := ⟨3, ![8, 5120, 1408]⟩
abbrev S8x40x11 : Shape := ⟨3, ![8, 40, 11]⟩
abbrev S254 : Shape := ⟨1, ![254]⟩
abbrev S_ : Shape := ⟨0, ![]⟩
abbrev S6144 : Shape := ⟨1, ![6144]⟩
abbrev S6144x1 : Shape := ⟨2, ![6144, 1]⟩
abbrev S1x254 : Shape := ⟨2, ![1, 254]⟩
abbrev S6144x254 : Shape := ⟨2, ![6144, 254]⟩
abbrev S1x8 : Shape := ⟨2, ![1, 8]⟩
abbrev S6144x8 : Shape := ⟨2, ![6144, 8]⟩
abbrev S8x40x128x11 : Shape := ⟨4, ![8, 40, 128, 11]⟩
abbrev S8x5120x11 : Shape := ⟨3, ![8, 5120, 11]⟩
abbrev S8x5120x11x128 : Shape := ⟨4, ![8, 5120, 11, 128]⟩
abbrev S6144x5120 : Shape := ⟨2, ![6144, 5120]⟩
abbrev S1x5120x1408 : Shape := ⟨3, ![1, 5120, 1408]⟩
abbrev S5120x1408 : Shape := ⟨2, ![5120, 1408]⟩

abbrev nBuf : Space → Nat
  | .hbm => 64
  | .vmem => 6
  | .smem => 0
  | _ => 0

abbrev bufTy : (tb : Table) → Fin (tcTables nBuf tb) → BufTy
  | .hbm, ⟨0, _⟩ => ⟨S6144x1408, .bf16⟩
  | .hbm, ⟨1, _⟩ => ⟨S8, .i32⟩
  | .hbm, ⟨2, _⟩ => ⟨S8x5120x1408, .fp8e4m3⟩
  | .hbm, ⟨3, _⟩ => ⟨S8x40x11, .f32⟩
  | .hbm, ⟨4, _⟩ => ⟨S254, .f32⟩
  | .hbm, ⟨5, _⟩ => ⟨S6144x1408, .f32⟩
  | .hbm, ⟨6, _⟩ => ⟨S6144x1408, .f32⟩
  | .hbm, ⟨7, _⟩ => ⟨S_, .f32⟩
  | .hbm, ⟨8, _⟩ => ⟨S6144, .f32⟩
  | .hbm, ⟨9, _⟩ => ⟨S6144x1, .f32⟩
  | .hbm, ⟨10, _⟩ => ⟨S_, .f32⟩
  | .hbm, ⟨11, _⟩ => ⟨S6144x1, .f32⟩
  | .hbm, ⟨12, _⟩ => ⟨S6144x1, .f32⟩
  | .hbm, ⟨13, _⟩ => ⟨S1x254, .f32⟩
  | .hbm, ⟨14, _⟩ => ⟨S6144x254, .f32⟩
  | .hbm, ⟨15, _⟩ => ⟨S6144x254, .f32⟩
  | .hbm, ⟨16, _⟩ => ⟨S6144x254, .i1⟩
  | .hbm, ⟨17, _⟩ => ⟨S_, .f32⟩
  | .hbm, ⟨18, _⟩ => ⟨S_, .f32⟩
  | .hbm, ⟨19, _⟩ => ⟨S6144x254, .f32⟩
  | .hbm, ⟨20, _⟩ => ⟨S6144x254, .f32⟩
  | .hbm, ⟨21, _⟩ => ⟨S6144x254, .f32⟩
  | .hbm, ⟨22, _⟩ => ⟨S_, .f32⟩
  | .hbm, ⟨23, _⟩ => ⟨S6144, .f32⟩
  | .hbm, ⟨24, _⟩ => ⟨S6144x1, .f32⟩
  | .hbm, ⟨25, _⟩ => ⟨S_, .f32⟩
  | .hbm, ⟨26, _⟩ => ⟨S6144x1, .f32⟩
  | .hbm, ⟨27, _⟩ => ⟨S6144x1, .i1⟩
  | .hbm, ⟨28, _⟩ => ⟨S_, .f32⟩
  | .hbm, ⟨29, _⟩ => ⟨S_, .f32⟩
  | .hbm, ⟨30, _⟩ => ⟨S6144x1, .f32⟩
  | .hbm, ⟨31, _⟩ => ⟨S6144x1, .f32⟩
  | .hbm, ⟨32, _⟩ => ⟨S_, .f32⟩
  | .hbm, ⟨33, _⟩ => ⟨S6144x1, .f32⟩
  | .hbm, ⟨34, _⟩ => ⟨S6144x1, .f32⟩
  | .hbm, ⟨35, _⟩ => ⟨S6144x1408, .f32⟩
  | .hbm, ⟨36, _⟩ => ⟨S6144x1408, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S6144x1408, .f32⟩
  | .hbm, ⟨41, _⟩ => ⟨S6144x1408, .f32⟩
  | .hbm, ⟨42, _⟩ => ⟨S_, .f32⟩
  | .hbm, ⟨43, _⟩ => ⟨S6144x1408, .f32⟩
  | .hbm, ⟨44, _⟩ => ⟨S6144x1408, .f32⟩
  | .hbm, ⟨45, _⟩ => ⟨S_, .i32⟩
  | .hbm, ⟨46, _⟩ => ⟨S_, .i32⟩
  | .hbm, ⟨47, _⟩ => ⟨S8, .i32⟩
  | .hbm, ⟨48, _⟩ => ⟨S6144, .i32⟩
  | .hbm, ⟨49, _⟩ => ⟨S6144x1, .i32⟩
  | .hbm, ⟨50, _⟩ => ⟨S1x8, .i32⟩
  | .hbm, ⟨51, _⟩ => ⟨S6144x8, .i32⟩
  | .hbm, ⟨52, _⟩ => ⟨S6144x8, .i32⟩
  | .hbm, ⟨53, _⟩ => ⟨S6144x8, .i1⟩
  | .hbm, ⟨54, _⟩ => ⟨S6144x8, .i32⟩
  | .hbm, ⟨55, _⟩ => ⟨S_, .i32⟩
  | .hbm, ⟨56, _⟩ => ⟨S6144, .i32⟩
  | .hbm, ⟨57, _⟩ => ⟨S6144x1, .i32⟩
  | .hbm, ⟨58, _⟩ => ⟨S8x40x11, .bf16⟩
  | .hbm, ⟨59, _⟩ => ⟨S8x40x128x11, .bf16⟩
  | .hbm, ⟨60, _⟩ => ⟨S8x5120x11, .bf16⟩
  | .hbm, ⟨61, _⟩ => ⟨S8x5120x11x128, .bf16⟩
  | .hbm, ⟨62, _⟩ => ⟨S8x5120x1408, .bf16⟩
  | .hbm, ⟨63, _⟩ => ⟨S6144x5120, .bf16⟩
  | .local _ .vmem, ⟨0, _⟩ => ⟨S6144x1408, .f32⟩
  | .local _ .vmem, ⟨1, _⟩ => ⟨S6144x1, .i32⟩
  | .local _ .vmem, ⟨2, _⟩ => ⟨S8x5120x1408, .fp8e4m3⟩
  | .local _ .vmem, ⟨3, _⟩ => ⟨S8x5120x1408, .bf16⟩
  | .local _ .vmem, ⟨4, _⟩ => ⟨S6144x1, .f32⟩
  | .local _ .vmem, ⟨5, _⟩ => ⟨S6144x5120, .bf16⟩
  | _, _ => ⟨S6144x1408, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_cst_4 : Ref sig .tc := ⟨.hbm, 25, rfl⟩
abbrev main_v13 : Ref sig .tc := ⟨.hbm, 26, rfl⟩
abbrev main_v14 : Ref sig .tc := ⟨.hbm, 27, rfl⟩
abbrev main_cst_5 : Ref sig .tc := ⟨.hbm, 28, rfl⟩
abbrev main_call1_v0 : Ref sig .tc := ⟨.hbm, 29, rfl⟩
abbrev main_call1_v1 : Ref sig .tc := ⟨.hbm, 30, rfl⟩
abbrev main_v15 : Ref sig .tc := ⟨.hbm, 31, rfl⟩
abbrev main_cst_6 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_7 : Ref sig .tc := ⟨.hbm, 37, rfl⟩
abbrev main_cst_8 : Ref sig .tc := ⟨.hbm, 38, rfl⟩
abbrev main_call2_v0 : Ref sig .tc := ⟨.hbm, 39, rfl⟩
abbrev main_call2_v1 : Ref sig .tc := ⟨.hbm, 40, rfl⟩
abbrev main_call2_v2 : Ref sig .tc := ⟨.hbm, 41, rfl⟩
abbrev main_call2_v3 : Ref sig .tc := ⟨.hbm, 42, rfl⟩
abbrev main_call2_v4 : Ref sig .tc := ⟨.hbm, 43, rfl⟩
abbrev main_v20 : Ref sig .tc := ⟨.hbm, 44, rfl⟩
abbrev main_call3_call0_c : Ref sig .tc := ⟨.hbm, 45, rfl⟩
abbrev main_call3_call0_v0 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_c : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S6144x1408 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6144x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x5120x1408 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x5120x1408 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6144x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6144x5120 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.K.Sched.lean ====
/- The schedule, on naturals. `f j` rows go to group `j` of eight; group `j` has the rows from `St f j` up to `En f j`. The rows are cut
   into tiles of 512, and each group visits every tile it has rows in, group after group: `Nt f j` visits for group `j`, `Cm f j` up to and
   including it. Visit `v` is of group `gr f v` at tile `tl f v` and covers the rows `lo f v ≤ · < hi f v` of that tile. Here: the visits stay
   in range, the tiles do not go down, every row is covered by a visit, and only its own group covers it. -/
module

public import Mathlib.Data.Nat.Count
public import Idealize.ShloMosaic.Lib.Routing.OpsSearch

@[expose] public section

namespace Cert.Sched

/-- The sum of the first `k` entries. -/
def pre (f : ℕ → ℕ) (k : ℕ) : ℕ := ((List.range k).map f).sum

theorem pre_zero (f : ℕ → ℕ) : pre f 0 = 0 := rfl

theorem pre_succ (f : ℕ → ℕ) (k : ℕ) : pre f (k + 1) = pre f k + f k := by
  simp [pre, List.range_succ]

theorem pre_mono (f : ℕ → ℕ) {i j : ℕ} (h : i ≤ j) : pre f i ≤ pre f j := by
  induction j, h using Nat.le_induction with
  | base => exact le_rfl
  | succ j _ ih => rw [pre_succ]; omega

/-- The first row of group `j`. -/
def St (f : ℕ → ℕ) (j : ℕ) : ℕ := pre f j

/-- One past the last row of group `j`. -/
def En (f : ℕ → ℕ) (j : ℕ) : ℕ := pre f (j + 1)

theorem En_eq (f : ℕ → ℕ) (j : ℕ) : En f j = St f j + f j := pre_succ f j

theorem St_mono (f : ℕ → ℕ) {i j : ℕ} (h : i ≤ j) : St f i ≤ St f j := pre_mono f h

theorem En_mono (f : ℕ → ℕ) {i j : ℕ} (h : i ≤ j) : En f i ≤ En f j := pre_mono f (by omega)

theorem En_le_St (f : ℕ → ℕ) {i j : ℕ} (h : i < j) : En f i ≤ St f j := pre_mono f h

/-- How many tiles group `j` has rows in. -/
def Nt (f : ℕ → ℕ) (j : ℕ) : ℕ := if 0 < f j then (En f j + 511) / 512 - St f j / 512 else 0

/-- The visits up to and including group `j`'s. -/
def Cm (f : ℕ → ℕ) (j : ℕ) : ℕ := pre (Nt f) (j + 1)

/-- The visits before group `j`'s. -/
def Cs (f : ℕ → ℕ) (j : ℕ) : ℕ := pre (Nt f) j

theorem Cm_eq (f : ℕ → ℕ) (j : ℕ) : Cm f j = Cs f j + Nt f j := pre_succ _ j

theorem Cm_mono (f : ℕ → ℕ) {i j : ℕ} (h : i ≤ j) : Cm f i ≤ Cm f j := pre_mono _ (by omega)

theorem Cm_le_Cs (f : ℕ → ℕ) {i j : ℕ} (h : i < j) : Cm f i ≤ Cs f j := pre_mono _ h

/-- The visit that visit `v` repeats: itself, or the last. -/
def vc (f : ℕ → ℕ) (v : ℕ) : ℕ := min v (Cm f 7 - 1)

/-- The group of visit `v`. -/
def gr (f : ℕ → ℕ) (v : ℕ) : ℕ := Nat.count (fun j => Cm f j ≤ vc f v) 8

/-- The tile of visit `v`. -/
def tl (f : ℕ → ℕ) (v : ℕ) : ℕ := St f (gr f v) / 512 + vc f v - Cs f (gr f v)

def lo (f : ℕ → ℕ) (v : ℕ) : ℕ := min (St f (gr f v) - tl f v * 512) 512

def hi (f : ℕ → ℕ) (v : ℕ) : ℕ := if v < Cm f 7 then min (En f (gr f v) - tl f v * 512) 512 else 0

/-- Counting how many of `n` values that do not go down are at most `x` finds where they pass `x`. -/
theorem count_spec {c : ℕ → ℕ} (hm : ∀ i j, i ≤ j → c i ≤ c j) (x n : ℕ) :
    (∀ j, j < Nat.count (fun j => c j ≤ x) n → c j ≤ x) ∧ (∀ j, Nat.count (fun j => c j ≤ x) n ≤ j → j < n → x < c j) := by
  induction n with
  | zero => exact ⟨fun j h => by simp at h, fun j _ h => by omega⟩
  | succ n ih =>
    obtain ⟨h1, h2⟩ := ih
    have hle : Nat.count (fun j => c j ≤ x) n ≤ n := Nat.count_le _
    rw [Nat.count_succ]
    by_cases h : c n ≤ x
    · have hn : Nat.count (fun j => c j ≤ x) n = n := by
        by_contra hne
        have := h2 _ le_rfl (by omega)
        have := hm _ _ hle
        omega
      rw [if_pos h, hn]
      exact ⟨fun j hj => (hm j n (by omega)).trans h, fun j hj hj' => by omega⟩
    · rw [if_neg h, Nat.add_zero]
      refine ⟨h1, fun j hj hj' => ?_⟩
      rcases Nat.lt_succ_iff_lt_or_eq.1 hj' with h' | h'
      · exact h2 j hj h'
      · subst h'; omega

/-- Where they pass `x` is one place. -/
theorem count_eq {c : ℕ → ℕ} (hm : ∀ i j, i ≤ j → c i ≤ c j) {x n g : ℕ} (hg : g < n) (h1 : ∀ j, j < g → c j ≤ x) (h2 : x < c g) :
    Nat.count (fun j => c j ≤ x) n = g := by
  obtain ⟨a, b⟩ := count_spec hm x n
  rcases lt_trichotomy (Nat.count (fun j => c j ≤ x) n) g with h | h | h
  · have := b _ le_rfl (by omega)
    have := h1 _ h
    omega
  · exact h
  · have := a g h
    omega

/-- The group of row `r`. -/
def rowGr (f : ℕ → ℕ) (r : ℕ) : ℕ := Nat.count (fun j => En f j ≤ r) 8

theorem rowGr_eq {f : ℕ → ℕ} {r g : ℕ} (hg : g < 8) (h1 : St f g ≤ r) (h2 : r < En f g) : rowGr f r = g :=
  count_eq (fun _ _ h => En_mono f h) hg (fun _ hj => (En_le_St f hj).trans h1) h2

theorem rowGr_spec {f : ℕ → ℕ} {r : ℕ} (h : r < En f 7) : rowGr f r < 8 ∧ St f (rowGr f r) ≤ r ∧ r < En f (rowGr f r) := by
  obtain ⟨a, b⟩ := count_spec (fun _ _ h => En_mono f h) r 8
  change (∀ j, j < rowGr f r → En f j ≤ r) at a
  change (∀ j, rowGr f r ≤ j → j < 8 → r < En f j) at b
  have h8 : rowGr f r < 8 := by
    by_contra hne
    have := a 7 (by omega)
    omega
  refine ⟨h8, ?_, b _ le_rfl h8⟩
  rcases Nat.eq_zero_or_pos (rowGr f r) with h0 | h0
  · rw [h0]; exact Nat.zero_le _
  · have := a (rowGr f r - 1) (by omega)
    unfold En at this
    rwa [show rowGr f r - 1 + 1 = rowGr f r by omega] at this

variable {f : ℕ → ℕ} (hf : En f 7 = 6144)

theorem Cs_le (f : ℕ → ℕ) (k : ℕ) : Cs f (k + 1) ≤ (St f (k + 1) + 511) / 512 + k := by
  induction k with
  | zero =>
    have : Cs f 1 = Cs f 0 + Nt f 0 := Cm_eq f 0
    have h0 : Cs f 0 = 0 := rfl
    have h1 : St f 0 = 0 := rfl
    have h2 : St f 1 = En f 0 := rfl
    unfold Nt at this
    rw [this, h0, h1, h2]
    split <;> omega
  | succ k ih =>
    have : Cs f (k + 2) = Cs f (k + 1) + Nt f (k + 1) := Cm_eq f (k + 1)
    have h2 : St f (k + 2) = En f (k + 1) := rfl
    have h3 := En_eq f (k + 1)
    unfold Nt at this
    rw [show k + 1 + 1 = k + 2 from rfl, this, h2]
    split <;> omega

include hf

theorem C_le : Cm f 7 ≤ 19 := by
  have := Cs_le f 7
  have h : St f (7 + 1) = En f 7 := rfl
  have h' : Cs f (7 + 1) = Cm f 7 := rfl
  rw [h, h', hf] at this
  omega

theorem C_pos : 0 < Cm f 7 := by
  obtain ⟨h8, h1, h2⟩ := rowGr_spec (f := f) (r := 0) (by omega)
  have h3 := En_eq f (rowGr f 0)
  have h4 : Cm f (rowGr f 0) ≤ Cm f 7 := Cm_mono f (by omega)
  have h5 := Cm_eq f (rowGr f 0)
  unfold Nt at h5
  rw [if_pos (by omega)] at h5
  omega

theorem vc_lt (v : ℕ) : vc f v < Cm f 7 := by
  have := C_pos hf
  unfold vc
  omega

/-- The visit's group has it among its visits. -/
theorem gr_spec (v : ℕ) : gr f v < 8 ∧ Cs f (gr f v) ≤ vc f v ∧ vc f v < Cm f (gr f v) := by
  obtain ⟨a, b⟩ := count_spec (fun _ _ h => Cm_mono f h) (vc f v) 8
  change (∀ j, j < gr f v → Cm f j ≤ vc f v) at a
  change (∀ j, gr f v ≤ j → j < 8 → vc f v < Cm f j) at b
  have h8 : gr f v < 8 := by
    by_contra hne
    have := a 7 (by omega)
    have := vc_lt hf v
    omega
  refine ⟨h8, ?_, b _ le_rfl h8⟩
  rcases Nat.eq_zero_or_pos (gr f v) with h0 | h0
  · rw [h0]; exact Nat.zero_le _
  · have := a (gr f v - 1) (by omega)
    unfold Cm at this
    rwa [show gr f v - 1 + 1 = gr f v by omega] at this

theorem gr_eq {v g : ℕ} (hg : g < 8) (h1 : Cs f g ≤ v) (h2 : v < Cm f g) : vc f v = v ∧ gr f v = g := by
  have hv : vc f v = v := by
    have : Cm f g ≤ Cm f 7 := Cm_mono f (by omega)
    unfold vc
    omega
  refine ⟨hv, ?_⟩
  unfold gr
  rw [hv]
  exact count_eq (fun _ _ h => Cm_mono f h) hg (fun _ hj => (Cm_le_Cs f hj).trans h1) h2

/-- The visit's tile is one its group has rows in. -/
theorem tl_spec (v : ℕ) : St f (gr f v) / 512 ≤ tl f v ∧ 512 * tl f v < En f (gr f v) ∧ 0 < f (gr f v) := by
  obtain ⟨h8, h1, h2⟩ := gr_spec hf v
  have h5 := Cm_eq f (gr f v)
  have h3 := En_eq f (gr f v)
  unfold Nt at h5
  unfold tl
  split at h5 <;> omega

theorem En_le (g : ℕ) (h : g < 8) : En f g ≤ 6144 := hf ▸ En_mono f (by omega)

theorem tl_le (v : ℕ) : tl f v < 12 := by
  obtain ⟨h8, _, _⟩ := gr_spec hf v
  have := tl_spec hf v
  have := En_le hf _ h8
  omega

theorem tl_mono {v w : ℕ} (h : v ≤ w) : tl f v ≤ tl f w := by
  obtain ⟨a8, a1, a2⟩ := gr_spec hf v
  obtain ⟨b8, b1, b2⟩ := gr_spec hf w
  have hvc : vc f v ≤ vc f w := by unfold vc; omega
  rcases lt_trichotomy (gr f v) (gr f w) with hg | hg | hg
  · have h1 := tl_spec hf v
    have h2 := tl_spec hf w
    have h3 := En_le_St f hg
    omega
  · unfold tl
    rw [← hg]
    omega
  · have := Cm_le_Cs f hg
    omega

/-- Every row has a visit of its own group, at its tile, that covers it. -/
theorem exists_visit {r : ℕ} (hr : r < 6144) :
    ∃ v, v < 19 ∧ tl f v = r / 512 ∧ lo f v ≤ r % 512 ∧ r % 512 < hi f v := by
  obtain ⟨h8, h1, h2⟩ := rowGr_spec (f := f) (r := r) (by omega)
  have h3 := Cm_eq f (rowGr f r)
  have h4 := En_eq f (rowGr f r)
  unfold Nt at h3
  rw [if_pos (by omega)] at h3
  have hC : Cm f (rowGr f r) ≤ Cm f 7 := Cm_mono f (by omega)
  have hC' := C_le hf
  obtain ⟨e1, e2⟩ := gr_eq hf (v := Cs f (rowGr f r) + (r / 512 - St f (rowGr f r) / 512)) h8 (by omega) (by omega)
  have et : tl f (Cs f (rowGr f r) + (r / 512 - St f (rowGr f r) / 512)) = r / 512 := by
    unfold tl
    rw [e1, e2]
    omega
  refine ⟨_, by omega, et, ?_, ?_⟩
  · unfold lo
    rw [et, e2]
    omega
  · unfold hi
    rw [if_pos (by omega), et, e2]
    omega

omit hf in
/-- A visit covers rows of its own group only. -/
theorem rowGr_of_covers {v p : ℕ} (h1 : lo f v ≤ p) (h2 : p < hi f v) (h8 : gr f v < 8) :
    rowGr f (512 * tl f v + p) = gr f v := by
  unfold hi at h2
  unfold lo at h1
  split at h2
  · exact rowGr_eq h8 (by omega) (by omega)
  · omega

omit hf in
theorem hi_le (v : ℕ) : hi f v ≤ 512 := by unfold hi; split <;> omega

omit hf in
theorem lo_le (v : ℕ) : lo f v ≤ 512 := by unfold lo; omega

end Cert.Sched
-- ==== Proof.K.Words.lean ====
/- The schedule, on words: the integer operations that make the kernel's tables, at any way of broadcasting them, read at an index where
   the arrays they read hold the naturals of `Sched`. -/
module

public import proofs.«01_k».proof.Proof.K.Sched
public import Idealize.ShloMosaic.Lib.Routing.OpsSearch
public import Idealize.ShloMosaic.Lib.Routing.Words

@[expose] public section

noncomputable section

namespace Cert.Sched

open Idealize.ShloMosaic Idealize.ShloMosaic.Routing Idealize.ShloMosaic.ValueIdx Idealize.ShloMosaic.WordCmp

/-! ## The arrays -/

section Defs
variable (b8 : shape0.BroadcastsInDim (shape1 8) (![] : Fin 0 → Fin (shape1 8).rank))
  (b19 : shape0.BroadcastsInDim (shape1 19) (![] : Fin 0 → Fin (shape1 19).rank))
  (bcol : (shape1 19).BroadcastsInDim (shape2 19 1) (![0] : Fin 1 → Fin (shape2 19 1).rank))
  (d : GatherDims (shape1 8) (shape2 19 1) (shape1 19))
  (hsl : (shape1 8).Slices ![7] (shape1 1)) (hsc : (shape1 1).ShapeCasts shape0)

/-- The visits of each group. -/
def ntV (g v0 : IVec (shape1 8) 32) : IVec (shape1 8) 32 :=
  select (cmpi .sgt g (broadcastInDim (shape1 8) ![] b8 (constantI shape0 32 0#32)))
    (subi (pyDiv b8 (subi (addi v0 (broadcastInDim (shape1 8) ![] b8 (constantI shape0 32 512#32)))
        (broadcastInDim (shape1 8) ![] b8 (constantI shape0 32 1#32))) (constantI shape0 32 512#32))
      (pyDiv b8 (subi v0 g) (constantI shape0 32 512#32)))
    (broadcastInDim (shape1 8) ![] b8 (constantI shape0 32 0#32))

/-- All visits, as a scalar. -/
def lastV (v12 : IVec (shape1 8) 32) : IVec shape0 32 := shapeCast shape0 (extractStridedSlice (shape1 1) ![7] v12 hsl) hsc

/-- The visit each visit repeats. -/
def vcV (v12 : IVec (shape1 8) 32) : IVec (shape1 19) 32 :=
  minsi (iotaInDim (shape1 19) 32 0)
    (broadcastInDim (shape1 19) ![] b19 (subi (lastV hsl hsc v12) (constantI shape0 32 1#32)))

/-- The entries of `x` at the groups `e`. -/
def takeV (x : IVec (shape1 8) 32) (e : IVec (shape1 19) 32) : IVec (shape1 19) 32 :=
  Host.gather d x (broadcastInDim (shape2 19 1) ![0] bcol
    (select (cmpi .slt e (broadcastInDim (shape1 19) ![] b19 (constantI shape0 32 0#32)))
      (addi e (broadcastInDim (shape1 19) ![] b19 (constantI shape0 32 8#32))) e))

/-- The tile of each visit. -/
def tlV (v1 v11 v12 : IVec (shape1 8) 32) (v18 e : IVec (shape1 19) 32) : IVec (shape1 19) 32 :=
  subi (addi (pyDiv b19 (takeV b19 bcol d v1 e) (constantI shape0 32 512#32)) v18)
    (subi (takeV b19 bcol d v12 e) (takeV b19 bcol d v11 e))

/-- Rows given by group, from the top of the visit's tile, cut to the tile. -/
def cutV (x : IVec (shape1 8) 32) (e t : IVec (shape1 19) 32) : IVec (shape1 19) 32 :=
  minsi (broadcastInDim (shape1 19) ![] b19 (constantI shape0 32 512#32))
    (maxsi (broadcastInDim (shape1 19) ![] b19 (constantI shape0 32 0#32))
      (subi (takeV b19 bcol d x e) (muli t (broadcastInDim (shape1 19) ![] b19 (constantI shape0 32 512#32)))))

/-- Zero from the last visit on. -/
def hiV (v12 : IVec (shape1 8) 32) (v66 : IVec (shape1 19) 32) : IVec (shape1 19) 32 :=
  select (cmpi .slt (iotaInDim (shape1 19) 32 0) (broadcastInDim (shape1 19) ![] b19 (lastV hsl hsc v12))) v66
    (broadcastInDim (shape1 19) ![] b19 (constantI shape0 32 0#32))

end Defs

/-- The groups of the visits: how many running sums are at most the visit. -/
def grV (h1 : (shape1 8).BroadcastsInDim (shape2 8 1) (![0] : Fin 1 → Fin (shape2 8 1).rank))
    (h2 : (shape2 8 1).BroadcastsInDim (shape2 8 19) (![0, 1] : Fin 2 → Fin (shape2 8 19).rank))
    (h3 : (shape1 19).BroadcastsInDim (shape2 1 19) (![1] : Fin 1 → Fin (shape2 1 19).rank))
    (h4 : (shape2 1 19).BroadcastsInDim (shape2 8 19) (![0, 1] : Fin 2 → Fin (shape2 8 19).rank))
    (hw : 1 < 32) (hr : (shape2 8 19).ReducesTo [0] (shape1 19)) (hu : 0 < shape0.numel)
    (v12 : IVec (shape1 8) 32) (v18 : IVec (shape1 19) 32) : IVec (shape1 19) 32 :=
  Host.reduce IntOp.addi (extui 32 (cmpi .sle (broadcastInDim (shape2 8 19) ![0, 1] h2 (broadcastInDim (shape2 8 1) ![0] h1 v12))
    (broadcastInDim (shape2 8 19) ![0, 1] h4 (broadcastInDim (shape2 1 19) ![1] h3 v18))) hw) (constantI shape0 32 0#32) hr hu

/-! ## A count down the columns -/

/-- The sum over the rows of a widened mask counts, at a column, the rows whose bit is set there. -/
theorem reduce_count_down {N b : Nat} (hN : N < 2 ^ 32) (msk : IVec (shape2 N b) 1) (hw : 1 < 32) (h : (shape2 N b).ReducesTo [0] (shape1 b))
    (hu : 0 < shape0.numel) (q : Fin b) (Q : Nat → Prop) [DecidablePred Q] (hQ : ∀ j : Fin N, msk (ix2 j q) = 1#1 ↔ Q j.val) :
    Host.reduce IntOp.addi (extui 32 msk hw) (constantI shape0 32 0#32) h hu (ix1 q) = BitVec.ofNat 32 (Nat.count Q N) := by
  classical
  have hval : ∀ i, (extui 32 msk hw i).toNat = if msk i = 1#1 then 1 else 0 := fun i => StableHlo.Predicate.toNat_setWidth_bit (msk i)
  have hdrop : ∀ i : (shape2 N b).Idx, h.drop i = ix1 q ↔ i 1 = q := by
    intro i
    have hv0 : (h.drop i 0 : Nat) = i 1 := Shape.ReducesTo.drop_apply_val h i 0
    constructor
    · intro e
      rw [e] at hv0
      exact Fin.ext hv0.symm
    · rintro e1
      funext c
      match c with
      | ⟨0, _⟩ => exact Fin.ext (hv0.trans (congrArg Fin.val e1))
  have hback : ∀ i : (shape2 N b).Idx, i 1 = q → ix2 (i 0) q = i := fun i hi => by
    funext c
    match c with
    | ⟨0, _⟩ => rfl
    | ⟨1, _⟩ => exact hi.symm
  have hsum : ∑ i ∈ Finset.univ.filter (fun i : (shape2 N b).Idx => h.drop i = ix1 q), (extui 32 msk hw i).toNat
      = (Finset.univ.filter (fun j : Fin N => msk (ix2 j q) = 1#1)).card := by
    rw [Finset.card_filter]
    refine Finset.sum_bij' (fun i _ => i 0) (fun j _ => ix2 j q) (fun _ _ => Finset.mem_univ _)
      (fun j _ => Finset.mem_filter.2 ⟨Finset.mem_univ _, (hdrop _).2 rfl⟩)
      (fun i hi => hback i ((hdrop i).1 (Finset.mem_filter.1 hi).2)) (fun _ _ => rfl) ?_
    intro i hi
    rw [hval]
    exact (congrArg (fun x => if msk x = 1#1 then 1 else 0) (hback i ((hdrop i).1 (Finset.mem_filter.1 hi).2))).symm
  apply BitVec.eq_of_toNat_eq
  rw [Host.reduce_eq_fold]
  show (Finset.fold IntOp.addi 0#32 (extui 32 msk hw) (Finset.univ.filter fun i : (shape2 N b).Idx => h.drop i = ix1 q)).toNat = _
  rw [StableHlo.Predicate.toNat_fold_addi _ _ (by rw [hsum]; exact lt_of_le_of_lt (Finset.card_le_univ _) (by simpa using hN)), hsum, BitVec.toNat_ofNat,
    Nat.mod_eq_of_lt (Nat.lt_of_le_of_lt (Nat.count_le _) hN), ← card_filter_fin N Q]
  exact congrArg Finset.card (Finset.filter_congr fun j _ => hQ j)

/-! ## Words -/

/-- A difference of small naturals, cut to `0 … 512`: what is below zero goes to zero. -/
theorem clip_sub {a b : Nat} (ha : a < 2 ^ 20) (hb : b < 2 ^ 20) :
    IntOp.minsi 512#32 (IntOp.maxsi 0#32 (BitVec.ofNat 32 a - BitVec.ofNat 32 b)) = BitVec.ofNat 32 (min (a - b) 512) := by
  rcases Nat.lt_or_ge a b with h | h
  · have hneg : (BitVec.ofNat 32 a - BitVec.ofNat 32 b).slt 0#32 = true := by
      rw [BitVec.slt_zero_eq_msb, BitVec.msb_eq_decide, decide_eq_true_eq, BitVec.toNat_sub, BitVec.toNat_ofNat, BitVec.toNat_ofNat]
      omega
    unfold IntOp.maxsi
    rw [if_pos hneg, show a - b = 0 by omega]
    decide
  · rw [ofNat32_sub h]
    exact (clip_word (x := a - b) (lo := 0) (hi := 512) (by omega) (by omega) (by omega)).trans (by rw [Nat.max_eq_left (Nat.zero_le _)])

/-- The smaller of two small naturals. -/
theorem minsi_word {a b : Nat} (ha : a < 2 ^ 31) (hb : b < 2 ^ 31) :
    IntOp.minsi (BitVec.ofNat 32 a) (BitVec.ofNat 32 b) = BitVec.ofNat 32 (min a b) := by
  unfold IntOp.minsi
  rw [slt_ofNat32 ha hb]
  by_cases h : a < b
  · rw [if_pos (decide_eq_true h), Nat.min_eq_left (Nat.le_of_lt h)]
  · rw [if_neg (fun e => h (of_decide_eq_true e)), Nat.min_eq_right (by omega)]

/-! ## The arrays at an index -/

variable {f : ℕ → ℕ} (hf : En f 7 = 6144)

/-- The array holds the natural `k j` at each `j`. -/
def Holds {n : Nat} (x : IVec (shape1 n) 32) (k : ℕ → ℕ) : Prop := ∀ j : Fin n, x (ix1 j) = BitVec.ofNat 32 (k j.val)

section At
variable (b8 : shape0.BroadcastsInDim (shape1 8) (![] : Fin 0 → Fin (shape1 8).rank))
  (b19 : shape0.BroadcastsInDim (shape1 19) (![] : Fin 0 → Fin (shape1 19).rank))
  (bcol : (shape1 19).BroadcastsInDim (shape2 19 1) (![0] : Fin 1 → Fin (shape2 19 1).rank))
  (d : GatherDims (shape1 8) (shape2 19 1) (shape1 19))
  (hsl : (shape1 8).Slices ![7] (shape1 1)) (hsc : (shape1 1).ShapeCasts shape0)

theorem holds_sub {g v0 : IVec (shape1 8) 32} (hg : Holds g f) (h0 : Holds v0 (En f)) : Holds (subi v0 g) (St f) := fun j => by
  have := En_eq f j.val
  rw [subi_ap, hg j, h0 j, ofNat32_sub (by omega)]
  congr 1
  omega

include hf in
theorem holds_nt {g v0 : IVec (shape1 8) 32} (hg : Holds g f) (h0 : Holds v0 (En f)) : Holds (ntV b8 g v0) (Nt f) := fun j => by
  have hE := En_le hf _ j.isLt
  have hS := En_eq f j.val
  have h1 : pyDiv b8 (subi (addi v0 (broadcastInDim (shape1 8) ![] b8 (constantI shape0 32 512#32)))
        (broadcastInDim (shape1 8) ![] b8 (constantI shape0 32 1#32))) (constantI shape0 32 512#32) (ix1 j) = BitVec.ofNat 32 ((En f j.val + 511) / 512) := by
    refine pyDiv_ap b8 _ _ _ (b := 512) ?_ rfl (by omega) (by omega) (by omega)
    rw [subi_ap, addi_ap, bc0, bc0, h0 j]
    show BitVec.ofNat 32 _ + BitVec.ofNat 32 512 - BitVec.ofNat 32 1 = _
    rw [← BitVec.ofNat_add, ofNat32_sub (by omega)]
    rfl
  have h2 : pyDiv b8 (subi v0 g) (constantI shape0 32 512#32) (ix1 j) = BitVec.ofNat 32 (St f j.val / 512) :=
    pyDiv_ap b8 _ _ _ (b := 512) (holds_sub hg h0 j) rfl (by omega) (by omega) (by omega)
  unfold ntV
  rw [select_at, cmpi_at, bc0, hg j, subi_ap, h1, h2]
  show Scalar.select (IntOp.cmpi .sgt _ (BitVec.ofNat 32 0)) _ (BitVec.ofNat 32 0) = _
  unfold Nt
  by_cases h : 0 < f j.val
  · rw [(cmpi_sgt_ofNat_eq_one_iff (by omega) (by omega)).2 h, if_pos h, ofNat32_sub (by omega)]
    rfl
  · rw [(cmpi_sgt_ofNat_eq_zero_iff (by omega) (by omega)).2 (by omega), if_neg h]
    rfl

theorem holds_cumsum {x : IVec (shape1 8) 32} {k : ℕ → ℕ} (hx : Holds x k) (init : IVec shape0 32) (hinit : init ix0 = 0#32)
    (h : (shape1 8).ReduceWindows (![8] : Fin 1 → Nat) ![1] ![7] ![0] (shape1 8)) (hu : 0 < shape0.numel) :
    Holds (Host.reduceWindow IntOp.addi ![8] ![1] ![7] ![0] x init h hu) (fun j => pre k (j + 1)) := fun j =>
  cumsum1 (Nm1 := 7) rfl x k hx init hinit h hu j

theorem lastV_at {v12 : IVec (shape1 8) 32} (h12 : Holds v12 (Cm f)) : lastV hsl hsc v12 ix0 = BitVec.ofNat 32 (Cm f 7) := by
  unfold lastV
  have e : ∀ i : (shape1 1).Idx, extractStridedSlice (shape1 1) ![7] v12 hsl i = BitVec.ofNat 32 (Cm f 7) := fun i => by
    have : i = ix1 (0 : Fin 1) := by
      funext a
      match a with
      | ⟨0, _⟩ => exact Fin.ext (by have := (i 0).isLt; change (i 0).val < 1 at this; show (i 0).val = 0; omega)
    rw [this, slice1 7 v12 hsl 0 (by decide)]
    exact h12 7
  exact e _

include hf in
theorem holds_vc {v12 : IVec (shape1 8) 32} (h12 : Holds v12 (Cm f)) : Holds (vcV b19 hsl hsc v12) (vc f) := fun j => by
  have h1 := C_pos hf
  have h2 := C_le hf
  have hj := j.isLt
  have e : subi (lastV hsl hsc v12) (constantI shape0 32 1#32) ix0 = BitVec.ofNat 32 (Cm f 7 - 1) := by
    rw [subi_ap, lastV_at hsl hsc h12, ← ofNat32_sub (by omega)]
    rfl
  unfold vcV
  rw [minsi_apply, bc0, iota1_ap, e, minsi_word (by omega) (by omega)]
  rfl

include hf in
theorem holds_gr (h1 : (shape1 8).BroadcastsInDim (shape2 8 1) (![0] : Fin 1 → Fin (shape2 8 1).rank))
    (h2 : (shape2 8 1).BroadcastsInDim (shape2 8 19) (![0, 1] : Fin 2 → Fin (shape2 8 19).rank))
    (h3 : (shape1 19).BroadcastsInDim (shape2 1 19) (![1] : Fin 1 → Fin (shape2 1 19).rank))
    (h4 : (shape2 1 19).BroadcastsInDim (shape2 8 19) (![0, 1] : Fin 2 → Fin (shape2 8 19).rank))
    (hw : 1 < 32) (hr : (shape2 8 19).ReducesTo [0] (shape1 19)) (hu : 0 < shape0.numel)
    {v12 : IVec (shape1 8) 32} {v18 : IVec (shape1 19) 32} (h12 : Holds v12 (Cm f)) (h18 : Holds v18 (vc f)) :
    Holds (grV h1 h2 h3 h4 hw hr hu v12 v18) (gr f) := fun q => by
  refine reduce_count_down (by decide) _ hw hr hu q (fun j => Cm f j ≤ vc f q.val) fun j => ?_
  have hC := C_le hf
  have hCj : Cm f j.val ≤ Cm f 7 := Cm_mono f (by omega)
  have hv := vc_lt hf q.val
  rw [cmpi_at, bcRows, bcCols, h12 j, h18 q]
  exact cmpi_sle_ofNat_eq_one_iff (by omega) (by omega)

theorem holds_take (hcoll : d.collapsedSliceDims = [0]) (hob : d.operandBatchingDims = [])
    (hsim : d.startIndexMap = [0]) (hivd : d.indexVectorDim = 1) {x : IVec (shape1 8) 32} {k : ℕ → ℕ} (hx : Holds x k)
    {e : IVec (shape1 19) 32} {u : ℕ → ℕ} (he : Holds e u) (hu : ∀ v, v < 19 → u v < 8) :
    Holds (takeV b19 bcol d x e) (fun v => k (u v)) := fun p => by
  have hp := hu p.val p.isLt
  unfold takeV
  rw [take_ap d hcoll hob hsim hivd x _ p hp (by omega)]
  · exact hx ⟨u p.val, hp⟩
  · rw [bcCol, select_at, cmpi_at, bc0, he p]
    show Scalar.select (IntOp.cmpi .slt _ (BitVec.ofNat 32 0)) _ _ = _
    rw [(cmpi_slt_ofNat_eq_zero_iff (by omega) (by omega)).2 (by omega)]
    rfl

include hf in
theorem holds_tl (hcoll : d.collapsedSliceDims = [0]) (hob : d.operandBatchingDims = [])
    (hsim : d.startIndexMap = [0]) (hivd : d.indexVectorDim = 1) {v1 v11 v12 : IVec (shape1 8) 32} {v18 e : IVec (shape1 19) 32}
    (h1 : Holds v1 (St f)) (h11 : Holds v11 (Nt f)) (h12 : Holds v12 (Cm f)) (h18 : Holds v18 (vc f)) (he : Holds e (gr f)) :
    Holds (tlV b19 bcol d v1 v11 v12 v18 e) (tl f) := fun p => by
  have hu : ∀ v, v < 19 → gr f v < 8 := fun v _ => (gr_spec hf v).1
  obtain ⟨g8, g1, g2⟩ := gr_spec hf p.val
  have hE := En_le hf _ g8
  have hS := En_eq f (gr f p.val)
  have hC := Cm_eq f (gr f p.val)
  have e1 : pyDiv b19 (takeV b19 bcol d v1 e) (constantI shape0 32 512#32) (ix1 p) = BitVec.ofNat 32 (St f (gr f p.val) / 512) :=
    pyDiv_ap b19 _ _ (ix1 p) (a := St f (gr f p.val)) (b := 512) (holds_take b19 bcol d hcoll hob hsim hivd h1 he hu p) rfl (by omega) (by omega) (by omega)
  have e2 : takeV b19 bcol d v12 e (ix1 p) = BitVec.ofNat 32 (Cm f (gr f p.val)) := holds_take b19 bcol d hcoll hob hsim hivd h12 he hu p
  have e3 : takeV b19 bcol d v11 e (ix1 p) = BitVec.ofNat 32 (Nt f (gr f p.val)) := holds_take b19 bcol d hcoll hob hsim hivd h11 he hu p
  unfold tlV
  rw [subi_ap, addi_ap, subi_ap, h18 p, e1, e2, e3, ofNat32_sub (by omega), ← BitVec.ofNat_add, ofNat32_sub (by omega)]
  unfold tl
  congr 1
  omega

include hf in
theorem holds_cut (hcoll : d.collapsedSliceDims = [0]) (hob : d.operandBatchingDims = [])
    (hsim : d.startIndexMap = [0]) (hivd : d.indexVectorDim = 1) {x : IVec (shape1 8) 32} {k : ℕ → ℕ} (hx : Holds x k)
    (hk : ∀ j, j < 8 → k j ≤ 6144) {e t : IVec (shape1 19) 32} (he : Holds e (gr f)) (ht : Holds t (tl f)) :
    Holds (cutV b19 bcol d x e t) (fun v => min (k (gr f v) - tl f v * 512) 512) := fun p => by
  have hu : ∀ v, v < 19 → gr f v < 8 := fun v _ => (gr_spec hf v).1
  have g8 := (gr_spec hf p.val).1
  have h1 := hk _ g8
  have h2 := tl_le hf p.val
  have e1 : takeV b19 bcol d x e (ix1 p) = BitVec.ofNat 32 (k (gr f p.val)) := holds_take b19 bcol d hcoll hob hsim hivd hx he hu p
  have e2 : muli t (broadcastInDim (shape1 19) ![] b19 (constantI shape0 32 512#32)) (ix1 p) = BitVec.ofNat 32 (tl f p.val * 512) := by
    rw [muli_ap, bc0, ht p, BitVec.ofNat_mul]
    rfl
  have e3 : ∀ w, broadcastInDim (shape1 19) ![] b19 (constantI shape0 32 w) (ix1 p) = w := fun w => by rw [bc0]; rfl
  unfold cutV
  rw [minsi_apply, maxsi_apply, subi_ap, e1, e2, e3, e3]
  exact clip_sub (by omega) (by omega)

include hf in
theorem holds_hi {v12 : IVec (shape1 8) 32} {v66 : IVec (shape1 19) 32} (h12 : Holds v12 (Cm f))
    (h66 : Holds v66 (fun v => min (En f (gr f v) - tl f v * 512) 512)) : Holds (hiV b19 hsl hsc v12 v66) (hi f) := fun p => by
  have h2 := C_le hf
  have hp := p.isLt
  unfold hiV
  rw [select_at, cmpi_at, bc0, bc0, h66 p, lastV_at hsl hsc h12]
  show Scalar.select (IntOp.cmpi .slt (BitVec.ofNat 32 p.val) _) _ (BitVec.ofNat 32 0) = _
  unfold hi
  by_cases h : p.val < Cm f 7
  · rw [(cmpi_slt_ofNat_eq_one_iff (by omega) (by omega)).2 h, if_pos h]
    rfl
  · rw [(cmpi_slt_ofNat_eq_zero_iff (by omega) (by omega)).2 (by omega), if_neg h]
    rfl

end At

end Cert.Sched

end
-- ==== Proof.K.Sizes.lean ====
/- The precondition on the group sizes, read: each is a natural number and they add up to the rows. -/
module

public import proofs.«01_k».proof.Proof.K.Words
public import Idealize.ShloMosaic.Lib.Affine

@[expose] public section

namespace Cert.Sched

open Idealize.ShloMosaic Idealize.ShloMosaic.Routing Idealize.ShloMosaic.ValueIdx Idealize.ShloMosaic.WordCmp

theorem exists_sizes (b8 : shape0.BroadcastsInDim (shape1 8) (![] : Fin 0 → Fin (shape1 8).rank)) (hr : (shape1 8).ReducesTo [0] shape0)
    (hu : 0 < shape0.numel) (g : IVec (shape1 8) 32)
    (h1 : andi (cmpi .sge g (broadcastInDim (shape1 8) ![] b8 (constantI shape0 32 0#32)))
      (cmpi .sle g (broadcastInDim (shape1 8) ![] b8 (constantI shape0 32 6144#32))) = fun _ => 1#1)
    (h2 : cmpi .eq (Host.reduce IntOp.addi g (constantI shape0 32 0#32) hr hu) (constantI shape0 32 6144#32) = fun _ => 1#1) :
    ∃ f : ℕ → ℕ, En f 7 = 6144 ∧ Holds g f := by
  have hle : ∀ j : Fin 8, (g (ix1 j)).toNat ≤ 6144 := fun j => by
    have e := congrFun h1 (ix1 j)
    rw [andi_at, cmpi_at, cmpi_at, bc0, bc0] at e
    obtain ⟨e1, e2⟩ := IntOp.andi_eq_one.1 e
    rw [IntOp.cmpi_sge] at e1
    rw [IntOp.cmpi_sle] at e2
    change (0#32 : BitVec 32).toInt ≤ _ at e1
    change _ ≤ (6144#32 : BitVec 32).toInt at e2
    rw [show (0#32 : BitVec 32).toInt = 0 from rfl] at e1
    rw [show (6144#32 : BitVec 32).toInt = 6144 from rfl] at e2
    have h31 := toNat_lt_of_toInt_nonneg _ e1
    rw [BitVec.toInt_eq_toNat_of_lt (by omega)] at e2
    omega
  refine ⟨fun j => if h : j < 8 then (g (ix1 ⟨j, h⟩)).toNat else 0, ?_, ?_⟩
  · have e := congrFun h2 ix0
    rw [cmpi_at, reduce_sum g (fun j => if h : j < 8 then (g (ix1 ⟨j, h⟩)).toNat else 0) (fun i => by
      rw [dif_pos i.isLt]; simp)] at e
    rw [IntOp.cmpi_eq] at e
    have e' := congrArg BitVec.toNat e
    rw [BitVec.toNat_ofNat] at e'
    change _ % 2 ^ 32 = 6144 at e'
    rw [Nat.mod_eq_of_lt] at e'
    · exact e'
    · simp only [List.range_succ, List.range_zero, List.nil_append, List.cons_append, List.map_cons, List.map_nil, List.sum_cons, List.sum_nil]
      simp only [show (0 : ℕ) < 8 from by decide, show (1 : ℕ) < 8 from by decide, show (2 : ℕ) < 8 from by decide, show (3 : ℕ) < 8 from by decide,
        show (4 : ℕ) < 8 from by decide, show (5 : ℕ) < 8 from by decide, show (6 : ℕ) < 8 from by decide, show (7 : ℕ) < 8 from by decide, dite_true]
      have h0 := hle 0; have h1 := hle 1; have h2 := hle 2; have h3 := hle 3; have h4 := hle 4; have h5 := hle 5; have h6 := hle 6; have h7 := hle 7
      change (g (ix1 (⟨0, _⟩ : Fin 8))).toNat ≤ _ at h0
      change (g (ix1 (⟨1, _⟩ : Fin 8))).toNat ≤ _ at h1
      change (g (ix1 (⟨2, _⟩ : Fin 8))).toNat ≤ _ at h2
      change (g (ix1 (⟨3, _⟩ : Fin 8))).toNat ≤ _ at h3
      change (g (ix1 (⟨4, _⟩ : Fin 8))).toNat ≤ _ at h4
      change (g (ix1 (⟨5, _⟩ : Fin 8))).toNat ≤ _ at h5
      change (g (ix1 (⟨6, _⟩ : Fin 8))).toNat ≤ _ at h6
      change (g (ix1 (⟨7, _⟩ : Fin 8))).toNat ≤ _ at h7
      omega
  · intro j
    show _ = BitVec.ofNat 32 (if h : j.val < 8 then _ else 0)
    rw [dif_pos j.isLt]
    simp

end Cert.Sched
-- ==== Proof.K.Bits.Setup.lean ====
/- The kernel's launch, before its body is run: @main's stretches of host operations and what they leave in the buffers (`V`), the five
   prefetched tables read off that (`tbl`), the pipeline at them under the side condition of their contents (`Ok`), each window's
   block at a point (`iblk`), and the frame claim's post from any proof data's run. -/
module

public import proofs.«01_k».proof.Proof.Gen.Kernel.Launch
public import proofs.«01_k».proof.Proof.Gen.Kernel.Skeleton
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- The stretches of host operations before the region, in order. -/
abbrev hostAll : List (List (HloOp τ sig (Elt F))) := [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18]

/-- Core `c`'s TensorCore buffers when the region is entered: after the host operations. -/
def V (c : Dev nD) (b : Ref sig .tc) : Buf (Elt F) ((c : Thread nD τ).loc b) :=
  StableHlo.after (List.flatten hostAll) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor

set_option maxHeartbeats 1600000 in
/-- @main up to the region: the lines of host operations then the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main hostAll (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostAll, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostAll, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostAll, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostAll, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 5) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S19 .i32 := Memref.whole main_v19
abbrev htbM0_0 : tbM0_0.IsWhole := Memref.isWhole_whole _
abbrev tbM0_1 : Memref sig .tc .smem S19 .i32 := Memref.whole main_v44
abbrev htbM0_1 : tbM0_1.IsWhole := Memref.isWhole_whole _
abbrev tbM0_2 : Memref sig .tc .smem S19 .i32 := Memref.whole main_v72
abbrev htbM0_2 : tbM0_2.IsWhole := Memref.isWhole_whole _
abbrev tbM0_3 : Memref sig .tc .smem S19 .i32 := Memref.whole main_v55
abbrev htbM0_3 : tbM0_3.IsWhole := Memref.isWhole_whole _
abbrev tbM0_4 : Memref sig .tc .smem S19 .i32 := Memref.whole main_v71
abbrev htbM0_4 : tbM0_4.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2) ∗ tbPt0 c tbM0_3 (tbl m 3) ∗ tbPt0 c tbM0_4 (tbl m 4)) := by
  unfold Pipeline.ΦT Pipeline.prefHeld
  rw [show (Finset.univ : Finset (Fin 5)) = insert (0 : Fin 5) (insert (1 : Fin 5) (insert (2 : Fin 5) (insert (3 : Fin 5) {(4 : Fin 5)}))) from by decide,
    bigSep_insert (by decide), bigSep_insert (by decide), bigSep_insert (by decide), bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(Pipeline.RDat.FramePost.arr_in h c 1 rfl).trans ((hA c 1).trans (V_main_arg0 m c)),
      ((h c).2 main_arg1 (by decide : main_arg1 ∈ Pipeline.restRefs sig spec0)).trans (V_main_arg1 m c),
      (Pipeline.RDat.FramePost.arr_in h c 2 rfl).trans ((hA c 2).trans (V_main_arg2 m c)),
      ((h c).2 main_arg3 (by decide : main_arg3 ∈ Pipeline.restRefs sig spec0)).trans (V_main_arg3 m c)⟩) h

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .smem S3520 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S512x1408 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x512x1408 .fp8e4m3 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S512x512 .bf16 := spec0_3.stage ((cfgM m hO).slots t 3)
abbrev hs0_3 (hO : Ok m) (t : Fin (cfgM m hO).N) : (ms0_3 m hO t).IsWhole := hstage0_3 (((cfgM m hO).slots t 3).cast nbuf0_3)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0__body (grid0.coords t) (Memref.whole main_v19) (Memref.isWhole_whole _) (Memref.whole main_v44) (Memref.isWhole_whole _) (Memref.whole main_v72) (Memref.isWhole_whole _) (Memref.whole main_v55) (Memref.isWhole_whole _) (Memref.whole main_v71) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3))

end Cert.Kernel.Hand

end
-- ==== Proof.K.Bits.Prefix.lean ====
/- The tables the launch makes from the group sizes: each buffer of the host operations that the tables read, stretch after stretch, as the
   arrays of `Sched`; then what the five tables hold where the sizes are natural numbers that add up to the rows. -/
module

public import proofs.«01_k».proof.Proof.K.Bits.Setup
public import proofs.«01_k».proof.Proof.K.Words
public import Idealize.ShloMosaic.Lib.StableHlo.RunRead

@[expose] public section

noncomputable section

namespace Cert.Kernel.Hand

open Cert.Kernel.Gen Cert.Sched
open Idealize.ShloMosaic Idealize.ShloMosaic.TcCoe Idealize.ShloMosaic.StableHlo
open Idealize.ShloMosaic.ValueIdx

variable {F : FTy → Type} [FloatOps F]
variable (m : (ℓ : Loc nD τ sig) → Buf (Elt F) ℓ) (c : Dev nD)

/-! ## The buffers after each part of the host operations -/

def W0 : Valuation τ sig (Elt F) := fun b => m (c, b)
def WA : Valuation τ sig (Elt F) := after (hostOps0) (W0 m c)
def WB : Valuation τ sig (Elt F) := after (hostOps0_1 ++ hostOps0_2 ++ hostOps0_3 ++ hostOps0_4 ++ hostOps0_5 ++ hostOps0_6) (WA m c)
def WC : Valuation τ sig (Elt F) := after (hostOps0_7) (WB m c)
def WD : Valuation τ sig (Elt F) := after (hostOps0_8) (WC m c)
def WE : Valuation τ sig (Elt F) := after (hostOps0_9) (WD m c)
def WF : Valuation τ sig (Elt F) := after (hostOps0_10 ++ hostOps0_11 ++ hostOps0_12) (WE m c)
def WG : Valuation τ sig (Elt F) := after (hostOps0_13) (WF m c)
def WH : Valuation τ sig (Elt F) := after (hostOps0_14 ++ hostOps0_15) (WG m c)
def WI : Valuation τ sig (Elt F) := after (hostOps0_16 ++ hostOps0_17) (WH m c)
def WJ : Valuation τ sig (Elt F) := after (hostOps0_18) (WI m c)

theorem V_eq (b : Ref sig .tc) : V m c b = WJ m c (Proc.devRef .tc b) := by
  unfold V WJ WI WH WG WF WE WD WC WB WA
  simp only [← StableHlo.after_append]
  rfl

theorem W0_arg1 : W0 m c (Proc.devRef .tc main_arg1) = m (c, Proc.devRef .tc main_arg1) := rfl

/-- The group sizes as launched. -/
abbrev gsz : IVec S8 32 := m (c, Proc.devRef .tc main_arg1)

theorem WA_main_v0 : WA m c (Proc.devRef .tc main_v0) = Host.reduceWindow IntOp.addi ![8] ![1] ![7] ![0] (gsz m c) (broadcastInDim S_ ![] bcast_S_S_ (constantI S_ 32 0#32)) reduceWindows_S8_S8_w8s1p7_0 h_S_ := by
  unfold WA
  after_reads_simp
  try simp -implicitDefEqProofs only [StableHlo.TRef.toBuf, StableHlo.TRef.ofBuf, cast_cast, cast_eq, id_eq]
  try simp only [W0_arg1]
  try rfl

theorem WA_main_arg1 : WA m c (Proc.devRef .tc main_arg1) = gsz m c := by
  unfold WA
  after_reads_simp
  try simp -implicitDefEqProofs only [StableHlo.TRef.toBuf, StableHlo.TRef.ofBuf, cast_cast, cast_eq, id_eq]
  try simp only [W0_arg1]
  try rfl

theorem WB_main_v0 : WB m c (Proc.devRef .tc main_v0) = WA m c (Proc.devRef .tc main_v0) := by
  unfold WB
  after_reads_simp
  try simp -implicitDefEqProofs only [StableHlo.TRef.toBuf, StableHlo.TRef.ofBuf, cast_cast, cast_eq, id_eq]
  try rfl

theorem WB_main_v1 : WB m c (Proc.devRef .tc main_v1) = subi (WA m c (Proc.devRef .tc main_v0) : IVec S8 32) (gsz m c) := by
  unfold WB
  after_reads_simp
  try simp -implicitDefEqProofs only [StableHlo.TRef.toBuf, StableHlo.TRef.ofBuf, cast_cast, cast_eq, id_eq]
  try simp only [WA_main_arg1]
  try rfl

theorem WB_main_v11 : WB m c (Proc.devRef .tc main_v11) = ntV bcast_S_S8 (gsz m c) (WA m c (Proc.devRef .tc main_v0)) := by
  unfold WB
  after_reads_simp
  try simp -implicitDefEqProofs only [StableHlo.TRef.toBuf, StableHlo.TRef.ofBuf, cast_cast, cast_eq, id_eq]
  try simp only [WA_main_arg1]
  try rfl

theorem WC_main_v0 : WC m c (Proc.devRef .tc main_v0) = WA m c (Proc.devRef .tc main_v0) := by
  unfold WC
  after_reads_simp
  try simp -implicitDefEqProofs only [StableHlo.TRef.toBuf, StableHlo.TRef.ofBuf, cast_cast, cast_eq, id_eq]
  try simp only [WB_main_v0]
  try rfl

theorem WC_main_v1 : WC m c (Proc.devRef .tc main_v1) = WB m c (Proc.devRef .tc main_v1) := by
  unfold WC
  after_reads_simp
  try simp -implicitDefEqProofs only [StableHlo.TRef.toBuf, StableHlo.TRef.ofBuf, cast_cast, cast_eq, id_eq]
  try rfl

theorem WC_main_v11 : WC m c (Proc.devRef .tc main_v11) = WB m c (Proc.devRef .tc main_v11) := by
  unfold WC
  after_reads_simp
  try simp -implicitDefEqProofs only [StableHlo.TRef.toBuf, StableHlo.TRef.ofBuf, cast_cast, cast_eq, id_eq]
  try rfl

theorem WC_main_v12 : WC m c (Proc.devRef .tc main_v12) = Host.reduceWindow IntOp.addi ![8] ![1] ![7] ![0] (WB m c (Proc.devRef .tc main_v11) : IVec S8 32) (broadcastInDim S_ ![] bcast_S_S_ (constantI S_ 32 0#32)) reduceWindows_S8_S8_w8s1p7_0 h_S_ := by
  unfold WC
  after_reads_simp
  try simp -implicitDefEqProofs only [StableHlo.TRef.toBuf, StableHlo.TRef.ofBuf, cast_cast, cast_eq, id_eq]
  try rfl

theorem WD_main_v13 : WD m c (Proc.devRef .tc main_v13) = iotaInDim S19 32 0 := by
  unfold WD
  after_reads_simp
  try simp -implicitDefEqProofs only [StableHlo.TRef.toBuf, StableHlo.TRef.ofBuf, cast_cast, cast_eq, id_eq]
  try rfl

theorem WD_main_v0 : WD m c (Proc.devRef .tc main_v0) = WA m c (Proc.devRef .tc main_v0) := by
  unfold WD
  after_reads_simp
  try simp -implicitDefEqProofs only [StableHlo.TRef.toBuf, StableHlo.TRef.ofBuf, cast_cast, cast_eq, id_eq]
  try simp only [WC_main_v0]
  try rfl

theorem WD_main_v1 : WD m c (Proc.devRef .tc main_v1) = WB m c (Proc.devRef .tc main_v1) := by
  unfold WD
  after_reads_simp
  try simp -implicitDefEqProofs only [StableHlo.TRef.toBuf, StableHlo.TRef.ofBuf, cast_cast, cast_eq, id_eq]
  try simp only [WC_main_v1]
  try rfl

theorem WD_main_v11 : WD m c (Proc.devRef .tc main_v11) = WB m c (Proc.devRef .tc main_v11) := by
  unfold WD
  after_reads_simp
  try simp -implicitDefEqProofs only [StableHlo.TRef.toBuf, StableHlo.TRef.ofBuf, cast_cast, cast_eq, id_eq]
  try simp only [WC_main_v11]
  try rfl

theorem WD_main_v12 : WD m c (Proc.devRef .tc main_v12) = WC m c (Proc.devRef .tc main_v12) := by
  unfold WD
  after_reads_simp
  try simp -implicitDefEqProofs only [StableHlo.TRef.toBuf, StableHlo.TRef.ofBuf, cast_cast, cast_eq, id_eq]
  try rfl

theorem WD_main_v18 : WD m c (Proc.devRef .tc main_v18) = vcV bcast_S_S19 slices_S8_S1_7 shapeCasts_S1_S_ (WC m c (Proc.devRef .tc main_v12)) := by
  unfold WD
  after_reads_simp
  try simp -implicitDefEqProofs only [StableHlo.TRef.toBuf, StableHlo.TRef.ofBuf, cast_cast, cast_eq, id_eq]
  try rfl

theorem WE_main_v13 : WE m c (Proc.devRef .tc main_v13) = iotaInDim S19 32 0 := by
  unfold WE
  after_reads_simp
  try simp -implicitDefEqProofs only [StableHlo.TRef.toBuf, StableHlo.TRef.ofBuf, cast_cast, cast_eq, id_eq]
  try simp only [WD_main_v13]
  try rfl

theorem WE_main_v0 : WE m c (Proc.devRef .tc main_v0) = WA m c (Proc.devRef .tc main_v0) := by
  unfold WE
  after_reads_simp
  try simp -implicitDefEqProofs only [StableHlo.TRef.toBuf, StableHlo.TRef.ofBuf, cast_cast, cast_eq, id_eq]
  try simp only [WD_main_v0]
  try rfl

theorem WE_main_v1 : WE m c (Proc.devRef .tc main_v1) = WB m c (Proc.devRef .tc main_v1) := by
  unfold WE
  after_reads_simp
  try simp -implicitDefEqProofs only [StableHlo.TRef.toBuf, StableHlo.TRef.ofBuf, cast_cast, cast_eq, id_eq]
  try simp only [WD_main_v1]
  try rfl

theorem WE_main_v11 : WE m c (Proc.devRef .tc main_v11) = WB m c (Proc.devRef .tc main_v11) := by
  unfold WE
  after_reads_simp
  try simp -implicitDefEqProofs only [StableHlo.TRef.toBuf, StableHlo.TRef.ofBuf, cast_cast, cast_eq, id_eq]
  try simp only [WD_main_v11]
  try rfl

theorem WE_main_v12 : WE m c (Proc.devRef .tc main_v12) = WC m c (Proc.devRef .tc main_v12) := by
  unfold WE
  after_reads_simp
  try simp -implicitDefEqProofs only [StableHlo.TRef.toBuf, StableHlo.TRef.ofBuf, cast_cast, cast_eq, id_eq]
  try simp only [WD_main_v12]
  try rfl

theorem WE_main_v18 : WE m c (Proc.devRef .tc main_v18) = WD m c (Proc.devRef .tc main_v18) := by
  unfold WE
  after_reads_simp
  try simp -implicitDefEqProofs only [StableHlo.TRef.toBuf, StableHlo.TRef.ofBuf, cast_cast, cast_eq, id_eq]
  try rfl

theorem WE_main_v19 : WE m c (Proc.devRef .tc main_v19) = grV bcast_S8_S8x1_0 bcast_S8x1_S8x19_0_1 bcast_S19_S1x19_1 bcast_S1x19_S8x19_0_1 natLt_1_32 reducesTo_S8x19_S19_d0 h_S_ (WC m c (Proc.devRef .tc main_v12)) (WD m c (Proc.devRef .tc main_v18)) := by
  unfold WE
  after_reads_simp
  try simp -implicitDefEqProofs only [StableHlo.TRef.toBuf, StableHlo.TRef.ofBuf, cast_cast, cast_eq, id_eq]
  try simp only [WD_main_v12]
  try rfl

theorem WF_main_v13 : WF m c (Proc.devRef .tc main_v13) = iotaInDim S19 32 0 := by
  unfold WF
  after_reads_simp
  try simp -implicitDefEqProofs only [StableHlo.TRef.toBuf, StableHlo.TRef.ofBuf, cast_cast, cast_eq, id_eq]
  try simp only [WE_main_v13]
  try rfl

theorem WF_main_v0 : WF m c (Proc.devRef .tc main_v0) = WA m c (Proc.devRef .tc main_v0) := by
  unfold WF
  after_reads_simp
  try simp -implicitDefEqProofs only [StableHlo.TRef.toBuf, StableHlo.TRef.ofBuf, cast_cast, cast_eq, id_eq]
  try simp only [WE_main_v0]
  try rfl

theorem WF_main_v1 : WF m c (Proc.devRef .tc main_v1) = WB m c (Proc.devRef .tc main_v1) := by
  unfold WF
  after_reads_simp
  try simp -implicitDefEqProofs only [StableHlo.TRef.toBuf, StableHlo.TRef.ofBuf, cast_cast, cast_eq, id_eq]
  try simp only [WE_main_v1]
  try rfl

theorem WF_main_v12 : WF m c (Proc.devRef .tc main_v12) = WC m c (Proc.devRef .tc main_v12) := by
  unfold WF
  after_reads_simp
  try simp -implicitDefEqProofs only [StableHlo.TRef.toBuf, StableHlo.TRef.ofBuf, cast_cast, cast_eq, id_eq]
  try simp only [WE_main_v12]
  try rfl

theorem WF_main_v19 : WF m c (Proc.devRef .tc main_v19) = WE m c (Proc.devRef .tc main_v19) := by
  unfold WF
  after_reads_simp
  try simp -implicitDefEqProofs only [StableHlo.TRef.toBuf, StableHlo.TRef.ofBuf, cast_cast, cast_eq, id_eq]
  try rfl

theorem WF_main_c_16 : WF m c (Proc.devRef .tc main_c_16) = constantI S_ 32 0#32 := by
  unfold WF
  after_reads_simp
  try simp -implicitDefEqProofs only [StableHlo.TRef.toBuf, StableHlo.TRef.ofBuf, cast_cast, cast_eq, id_eq]
  try rfl

theorem WF_main_c_17 : WF m c (Proc.devRef .tc main_c_17) = constantI S_ 32 512#32 := by
  unfold WF
  after_reads_simp
  try simp -implicitDefEqProofs only [StableHlo.TRef.toBuf, StableHlo.TRef.ofBuf, cast_cast, cast_eq, id_eq]
  try rfl

theorem WF_main_v44 : WF m c (Proc.devRef .tc main_v44) = tlV bcast_S_S19 bcast_S19_S19x1_0 gather_S8_S19x1_S19_n_0_n_n_0_1_1 (WB m c (Proc.devRef .tc main_v1)) (WB m c (Proc.devRef .tc main_v11)) (WC m c (Proc.devRef .tc main_v12)) (WD m c (Proc.devRef .tc main_v18)) (WE m c (Proc.devRef .tc main_v19)) := by
  unfold WF
  after_reads_simp
  try simp -implicitDefEqProofs only [StableHlo.TRef.toBuf, StableHlo.TRef.ofBuf, cast_cast, cast_eq, id_eq]
  try simp only [WE_main_v1, WE_main_v11, WE_main_v12, WE_main_v18]
  try rfl

theorem WF_main_v54 : WF m c (Proc.devRef .tc main_v54) = subi (takeV bcast_S_S19 bcast_S19_S19x1_0 gather_S8_S19x1_S19_n_0_n_n_0_1_1 (WB m c (Proc.devRef .tc main_v1)) (WE m c (Proc.devRef .tc main_v19))) (muli (WF m c (Proc.devRef .tc main_v44) : IVec S19 32) (broadcastInDim S19 ![] bcast_S_S19 (constantI S_ 32 512#32))) := by
  rw [WF_main_v44]
  unfold WF
  after_reads_simp
  try simp -implicitDefEqProofs only [StableHlo.TRef.toBuf, StableHlo.TRef.ofBuf, cast_cast, cast_eq, id_eq]
  try simp only [WE_main_v1, WE_main_v11, WE_main_v12, WE_main_v18]
  try rfl

theorem WG_main_v13 : WG m c (Proc.devRef .tc main_v13) = iotaInDim S19 32 0 := by
  unfold WG
  after_reads_simp
  try simp -implicitDefEqProofs only [StableHlo.TRef.toBuf, StableHlo.TRef.ofBuf, cast_cast, cast_eq, id_eq]
  try simp only [WF_main_v13]
  try rfl

theorem WG_main_v0 : WG m c (Proc.devRef .tc main_v0) = WA m c (Proc.devRef .tc main_v0) := by
  unfold WG
  after_reads_simp
  try simp -implicitDefEqProofs only [StableHlo.TRef.toBuf, StableHlo.TRef.ofBuf, cast_cast, cast_eq, id_eq]
  try simp only [WF_main_v0]
  try rfl

theorem WG_main_v12 : WG m c (Proc.devRef .tc main_v12) = WC m c (Proc.devRef .tc main_v12) := by
  unfold WG
  after_reads_simp
  try simp -implicitDefEqProofs only [StableHlo.TRef.toBuf, StableHlo.TRef.ofBuf, cast_cast, cast_eq, id_eq]
  try simp only [WF_main_v12]
  try rfl

theorem WG_main_v19 : WG m c (Proc.devRef .tc main_v19) = WE m c (Proc.devRef .tc main_v19) := by
  unfold WG
  after_reads_simp
  try simp -implicitDefEqProofs only [StableHlo.TRef.toBuf, StableHlo.TRef.ofBuf, cast_cast, cast_eq, id_eq]
  try simp only [WF_main_v19]
  try rfl

theorem WG_main_v44 : WG m c (Proc.devRef .tc main_v44) = WF m c (Proc.devRef .tc main_v44) := by
  unfold WG
  after_reads_simp
  try simp -implicitDefEqProofs only [StableHlo.TRef.toBuf, StableHlo.TRef.ofBuf, cast_cast, cast_eq, id_eq]
  try rfl

theorem WG_main_v55 : WG m c (Proc.devRef .tc main_v55) = cutV bcast_S_S19 bcast_S19_S19x1_0 gather_S8_S19x1_S19_n_0_n_n_0_1_1 (WB m c (Proc.devRef .tc main_v1)) (WE m c (Proc.devRef .tc main_v19)) (WF m c (Proc.devRef .tc main_v44)) := by
  unfold WG
  after_reads_simp
  try simp -implicitDefEqProofs only [StableHlo.TRef.toBuf, StableHlo.TRef.ofBuf, cast_cast, cast_eq, id_eq]
  rw [WF_main_v54, WF_main_c_16, WF_main_c_17]
  try rfl

theorem WH_main_v13 : WH m c (Proc.devRef .tc main_v13) = iotaInDim S19 32 0 := by
  unfold WH
  after_reads_simp
  try simp -implicitDefEqProofs only [StableHlo.TRef.toBuf, StableHlo.TRef.ofBuf, cast_cast, cast_eq, id_eq]
  try simp only [WG_main_v13]
  try rfl

theorem WH_main_v12 : WH m c (Proc.devRef .tc main_v12) = WC m c (Proc.devRef .tc main_v12) := by
  unfold WH
  after_reads_simp
  try simp -implicitDefEqProofs only [StableHlo.TRef.toBuf, StableHlo.TRef.ofBuf, cast_cast, cast_eq, id_eq]
  try simp only [WG_main_v12]
  try rfl

theorem WH_main_v19 : WH m c (Proc.devRef .tc main_v19) = WE m c (Proc.devRef .tc main_v19) := by
  unfold WH
  after_reads_simp
  try simp -implicitDefEqProofs only [StableHlo.TRef.toBuf, StableHlo.TRef.ofBuf, cast_cast, cast_eq, id_eq]
  try simp only [WG_main_v19]
  try rfl

theorem WH_main_v44 : WH m c (Proc.devRef .tc main_v44) = WF m c (Proc.devRef .tc main_v44) := by
  unfold WH
  after_reads_simp
  try simp -implicitDefEqProofs only [StableHlo.TRef.toBuf, StableHlo.TRef.ofBuf, cast_cast, cast_eq, id_eq]
  try simp only [WG_main_v44]
  try rfl

theorem WH_main_v55 : WH m c (Proc.devRef .tc main_v55) = WG m c (Proc.devRef .tc main_v55) := by
  unfold WH
  after_reads_simp
  try simp -implicitDefEqProofs only [StableHlo.TRef.toBuf, StableHlo.TRef.ofBuf, cast_cast, cast_eq, id_eq]
  try rfl

theorem WH_main_v66 : WH m c (Proc.devRef .tc main_v66) = cutV bcast_S_S19 bcast_S19_S19x1_0 gather_S8_S19x1_S19_n_0_n_n_0_1_1 (WA m c (Proc.devRef .tc main_v0)) (WE m c (Proc.devRef .tc main_v19)) (WF m c (Proc.devRef .tc main_v44)) := by
  unfold WH
  after_reads_simp
  try simp -implicitDefEqProofs only [StableHlo.TRef.toBuf, StableHlo.TRef.ofBuf, cast_cast, cast_eq, id_eq]
  try simp only [WG_main_v0, WG_main_v19, WG_main_v44]
  try rfl

theorem WI_main_v19 : WI m c (Proc.devRef .tc main_v19) = WE m c (Proc.devRef .tc main_v19) := by
  unfold WI
  after_reads_simp
  try simp -implicitDefEqProofs only [StableHlo.TRef.toBuf, StableHlo.TRef.ofBuf, cast_cast, cast_eq, id_eq]
  try simp only [WH_main_v19]
  try rfl

theorem WI_main_v44 : WI m c (Proc.devRef .tc main_v44) = WF m c (Proc.devRef .tc main_v44) := by
  unfold WI
  after_reads_simp
  try simp -implicitDefEqProofs only [StableHlo.TRef.toBuf, StableHlo.TRef.ofBuf, cast_cast, cast_eq, id_eq]
  try simp only [WH_main_v44]
  try rfl

theorem WI_main_v55 : WI m c (Proc.devRef .tc main_v55) = WG m c (Proc.devRef .tc main_v55) := by
  unfold WI
  after_reads_simp
  try simp -implicitDefEqProofs only [StableHlo.TRef.toBuf, StableHlo.TRef.ofBuf, cast_cast, cast_eq, id_eq]
  try simp only [WH_main_v55]
  try rfl

theorem WI_main_v71 : WI m c (Proc.devRef .tc main_v71) = hiV bcast_S_S19 slices_S8_S1_7 shapeCasts_S1_S_ (WC m c (Proc.devRef .tc main_v12)) (WH m c (Proc.devRef .tc main_v66)) := by
  unfold WI
  after_reads_simp
  try simp -implicitDefEqProofs only [StableHlo.TRef.toBuf, StableHlo.TRef.ofBuf, cast_cast, cast_eq, id_eq]
  try simp only [WH_main_v12, WH_main_v13]
  try rfl

theorem WJ_main_v19 : WJ m c (Proc.devRef .tc main_v19) = WE m c (Proc.devRef .tc main_v19) := by
  unfold WJ
  after_reads_simp
  try simp -implicitDefEqProofs only [StableHlo.TRef.toBuf, StableHlo.TRef.ofBuf, cast_cast, cast_eq, id_eq]
  try simp only [WI_main_v19]
  try rfl

theorem WJ_main_v44 : WJ m c (Proc.devRef .tc main_v44) = WF m c (Proc.devRef .tc main_v44) := by
  unfold WJ
  after_reads_simp
  try simp -implicitDefEqProofs only [StableHlo.TRef.toBuf, StableHlo.TRef.ofBuf, cast_cast, cast_eq, id_eq]
  try simp only [WI_main_v44]
  try rfl

theorem WJ_main_v55 : WJ m c (Proc.devRef .tc main_v55) = WG m c (Proc.devRef .tc main_v55) := by
  unfold WJ
  after_reads_simp
  try simp -implicitDefEqProofs only [StableHlo.TRef.toBuf, StableHlo.TRef.ofBuf, cast_cast, cast_eq, id_eq]
  try simp only [WI_main_v55]
  try rfl

theorem WJ_main_v71 : WJ m c (Proc.devRef .tc main_v71) = WI m c (Proc.devRef .tc main_v71) := by
  unfold WJ
  after_reads_simp
  try simp -implicitDefEqProofs only [StableHlo.TRef.toBuf, StableHlo.TRef.ofBuf, cast_cast, cast_eq, id_eq]
  try rfl

/-! ## What the tables hold -/

variable {f : ℕ → ℕ} (hf : En f 7 = 6144) (hg : Holds (gsz m c) f)

include hg in
theorem holds_v0 : Holds (WA m c (Proc.devRef .tc main_v0) : IVec S8 32) (En f) := by
  rw [WA_main_v0]
  exact holds_cumsum hg _ rfl _ _

include hg in
theorem holds_v1 : Holds (WB m c (Proc.devRef .tc main_v1) : IVec S8 32) (St f) := by
  rw [WB_main_v1]
  exact holds_sub hg (holds_v0 m c hg)

include hf hg

theorem holds_v11 : Holds (WB m c (Proc.devRef .tc main_v11) : IVec S8 32) (Nt f) := by
  rw [WB_main_v11]
  exact holds_nt hf _ hg (holds_v0 m c hg)

theorem holds_v12 : Holds (WC m c (Proc.devRef .tc main_v12) : IVec S8 32) (Cm f) := by
  rw [WC_main_v12]
  exact holds_cumsum (holds_v11 m c hf hg) _ rfl _ _

theorem holds_v18 : Holds (WD m c (Proc.devRef .tc main_v18) : IVec S19 32) (vc f) := by
  rw [WD_main_v18]
  exact holds_vc hf _ _ _ (holds_v12 m c hf hg)

theorem holds_v19 : Holds (WE m c (Proc.devRef .tc main_v19) : IVec S19 32) (gr f) := by
  rw [WE_main_v19]
  exact holds_gr hf _ _ _ _ _ _ _ (holds_v12 m c hf hg) (holds_v18 m c hf hg)

theorem holds_v44 : Holds (WF m c (Proc.devRef .tc main_v44) : IVec S19 32) (tl f) := by
  rw [WF_main_v44]
  exact holds_tl hf _ _ _ rfl rfl rfl rfl (holds_v1 m c hg) (holds_v11 m c hf hg) (holds_v12 m c hf hg) (holds_v18 m c hf hg) (holds_v19 m c hf hg)

theorem holds_v55 : Holds (WG m c (Proc.devRef .tc main_v55) : IVec S19 32) (lo f) := by
  rw [WG_main_v55]
  exact holds_cut hf _ _ _ rfl rfl rfl rfl (holds_v1 m c hg) (fun j hj => by have := En_le hf j hj; have := En_eq f j; omega) (holds_v19 m c hf hg) (holds_v44 m c hf hg)

theorem holds_v71 : Holds (WI m c (Proc.devRef .tc main_v71) : IVec S19 32) (hi f) := by
  rw [WI_main_v71, WH_main_v66]
  exact holds_hi hf _ _ _ (holds_v12 m c hf hg) (holds_cut hf _ _ _ rfl rfl rfl rfl (holds_v0 m c hg) (fun j hj => En_le hf j hj) (holds_v19 m c hf hg) (holds_v44 m c hf hg))

/-- Table 0 holds the visits' groups. -/
theorem tab_gr : Holds (V m c main_v19 : IVec S19 32) (gr f) := by
  rw [V_eq, WJ_main_v19]; exact holds_v19 m c hf hg

/-- Table 1 holds their tiles. -/
theorem tab_tl : Holds (V m c main_v44 : IVec S19 32) (tl f) := by
  rw [V_eq, WJ_main_v44]; exact holds_v44 m c hf hg

/-- Table 3 holds the first row each covers in its tile. -/
theorem tab_lo : Holds (V m c main_v55 : IVec S19 32) (lo f) := by
  rw [V_eq, WJ_main_v55]; exact holds_v55 m c hf hg

/-- Table 4 holds one past the last. -/
theorem tab_hi : Holds (V m c main_v71 : IVec S19 32) (hi f) := by
  rw [V_eq, WJ_main_v71]; exact holds_v71 m c hf hg

end Cert.Kernel.Hand

end
-- ==== Proof.K.Bits.RunA.lean ====
/- One run of the kernel's body on any staging memrefs: the block the storing case leaves, written as a function of
   what the body loads, and the two cases of the body (the visit owns rows, or it owns none). -/
module

public import proofs.«01_k».proof.Proof.K.Bits.Setup
public import Idealize.ShloMosaic.Lib.Pipeline.ValueKit.Basic

@[expose] public section

-- membership in a rectangle of production extents (`View.cover_of_tiled`): the elaborator's structural look
-- recurses once per coordinate of the long axes
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The word of a table that the body reads at its grid point. -/
abbrev wordAt (c : Dev nD) (M : Memref sig .tc .smem S19 .i32) (i : grid0.Coords) (xt : TbBuf0 (F := F) c M) : Elt F .i32 :=
  M.view.readAt (Elt F) (Rect.unit (s := S19) (k0_off1 i) S1.size (k0_off1_inb i)).toLoadRect xt (Shape.Idx.first (numel1_S1.symm ▸ Nat.one_pos))

/-- The same word, by the offsets of the later reads. -/
abbrev wordAt' (c : Dev nD) (M : Memref sig .tc .smem S19 .i32) (i : grid0.Coords) (xt : TbBuf0 (F := F) c M) : Elt F .i32 :=
  M.view.readAt (Elt F) (Rect.unit (s := S19) (k0_off3 i) S1.size (k0_off3_inb i)).toLoadRect xt (Shape.Idx.first (numel1_S1.symm ▸ Nat.one_pos))

/-- The scale of weight block `(a, o)` of the step, as the body reads it from the scales' vector. -/
def scW (i : grid0.Coords) (v1 v3 v5 : BitVec 32) (hw : k0_chk1 i v1 v3 v5) (h1 : k0_cond1 v3 v5 = 1#1) (x0 : Vec F S3520 .f32)
    (a : Fin 4) (o : Fin 11) : Elt F .f32 :=
  View.ld x0 (Rect.unit (s := S3520) (k0_off2 i v1 (BitVec.ofNat 32 a.val) (BitVec.ofNat 32 o.val)) S1.size (k0_off2_inb i v1 v3 v5 hw h1 a o))
    (Shape.Idx.first (numel1_S1.symm ▸ Nat.one_pos))

/-- The rectangle of weight block `(a, o)` in the step's block of codes. -/
abbrev rT (a : Fin 4) (o : Fin 11) : Rect S1x512x1408 :=
  Rect.unit (s := S1x512x1408) ![0, 128 * a.val, 128 * o.val] S1x128x128.size (by
    have := a.isLt; have := o.isLt
    intro d; fin_cases d <;> simp [S1x512x1408, S1x128x128] <;> omega)

/-- One dequantised weight block: codes times the block's scale. -/
def tileB (s : Elt F .f32) (w : Vec F S1x128x128 .fp8e4m3) : FVec F S128x128 .bf16 :=
  mulf (extf .bf16 (shapeCast S128x128 w shapeCasts_S1x128x128_S128x128 : FVec F S128x128 .fp8e4m3) bitsLt_fp8e4m3_bf16)
    (truncf .bf16 (broadcast S128x128 s : FVec F S128x128 .f32) bitsLt_bf16_f32)

/-- One row of dequantised weight blocks. -/
def rowB (sc : Fin 4 → Fin 11 → Elt F .f32) (x2 : Vec F S1x512x1408 .fp8e4m3) (a : Fin 4) : FVec F S128x1408 .bf16 :=
  concatenate S128x1408 1 [⟨S128x128, tileB (sc a 0) (View.ld x2 (rT a 0))⟩, ⟨S128x128, tileB (sc a 1) (View.ld x2 (rT a 1))⟩, ⟨S128x128, tileB (sc a 2) (View.ld x2 (rT a 2))⟩, ⟨S128x128, tileB (sc a 3) (View.ld x2 (rT a 3))⟩, ⟨S128x128, tileB (sc a 4) (View.ld x2 (rT a 4))⟩, ⟨S128x128, tileB (sc a 5) (View.ld x2 (rT a 5))⟩, ⟨S128x128, tileB (sc a 6) (View.ld x2 (rT a 6))⟩, ⟨S128x128, tileB (sc a 7) (View.ld x2 (rT a 7))⟩, ⟨S128x128, tileB (sc a 8) (View.ld x2 (rT a 8))⟩, ⟨S128x128, tileB (sc a 9) (View.ld x2 (rT a 9))⟩, ⟨S128x128, tileB (sc a 10) (View.ld x2 (rT a 10))⟩]
    concatenates_S128x128_S128x128_S128x128_S128x128_S128x128_S128x128_S128x128_S128x128_S128x128_S128x128_S128x128_S128x1408_d1

/-- The whole block of activations, as the body loads it. -/
abbrev ldX (x1 : Vec F S512x1408 .bf16) : Vec F S512x1408 .bf16 :=
  View.ld x1 (Rect.unit (s := S512x1408) ![0, 0] S512x1408.size inb_S512x1408_S512x1408_0_0)

/-- The rows' scales. -/
def blkScale (x1 : Vec F S512x1408 .bf16) : FVec F S512x1 .f32 :=
  k0_pay9 (k0_pay4 (ldX x1)) (k0_pay5 (ldX x1)) (k0_pay6 (ldX x1)) k0_pay7

/-- The block of quantised activations. -/
def blkCodes (x1 : Vec F S512x1408 .bf16) : FVec F S512x1408 .bf16 :=
  k0_pay10 (k0_pay3 (ldX x1)) (k0_pay4 (ldX x1)) (k0_pay5 (ldX x1)) (k0_pay6 (ldX x1)) k0_pay7

/-- The output block after a storing visit: the visit's rows from the product, the other rows as they were. -/
def newBlk (x1 : Vec F S512x1408 .bf16) (x2 : Vec F S1x512x1408 .fp8e4m3) (sc : Fin 4 → Fin 11 → Elt F .f32) (lo hi : Elt F .i32)
    (d3 : Vec F S512x512 .bf16) : Vec F S512x512 .bf16 :=
  k0_pay2 (blkScale x1) (blkCodes x1) (rowB sc x2 0) (rowB sc x2 1) (rowB sc x2 2) (rowB sc x2 3) lo hi
    (View.ld d3 (Rect.unit (s := S512x512) ![0, 0] S512x512.size inb_S512x512_S512x512_0_0))

-- (the run's proof term is large: checking it walks past the default budget)
set_option maxHeartbeats 4000000 in
/-- The body when its visit owns rows: the output block becomes the merged block, everything else stays. -/
theorem run_store (c : Dev nD) (i : grid0.Coords) (arg7 : Memref sig .tc .smem S3520 .f32) (harg7 : arg7.IsWhole) (arg8 : Memref sig .tc .vmem S512x1408 .bf16) (harg8 : arg8.IsWhole) (arg9 : Memref sig .tc .vmem S1x512x1408 .fp8e4m3) (harg9 : arg9.IsWhole) (arg10 : Memref sig .tc .vmem S512x512 .bf16) (harg10 : arg10.IsWhole)
    (x0 : Vec F S3520 .f32) (x1 : Vec F S512x1408 .bf16) (x2 : Vec F S1x512x1408 .fp8e4m3) (d3 : Vec F S512x512 .bf16) (xt0 : TbBuf0 (F := F) c tbM0_0) (xt1 : TbBuf0 (F := F) c tbM0_1) (xt2 : TbBuf0 (F := F) c tbM0_2) (xt3 : TbBuf0 (F := F) c tbM0_3) (xt4 : TbBuf0 (F := F) c tbM0_4)
    (hw : k0_chk1 i (wordAt c tbM0_0 i xt0) (wordAt c tbM0_4 i xt4) (wordAt c tbM0_3 i xt3))
    (hcond : k0_cond1 (wordAt c tbM0_4 i xt4) (wordAt c tbM0_3 i xt3) = 1#1) :
      ∀ (E : Set ℕ) (K : PUnit → sProp 𝕄),
        iprop(owns (c : Thread nD τ) arg7 fullShare x0 ∗ owns (c : Thread nD τ) arg8 fullShare x1 ∗ owns (c : Thread nD τ) arg9 fullShare x2 ∗ owns (c : Thread nD τ) arg10 fullShare d3 ∗ tbPt0 c tbM0_0 xt0 ∗ tbPt0 c tbM0_1 xt1 ∗ tbPt0 c tbM0_2 xt2 ∗ tbPt0 c tbM0_3 xt3 ∗ tbPt0 c tbM0_4 xt4
            ∗ (iprop(owns (c : Thread nD τ) arg7 fullShare x0 ∗ owns (c : Thread nD τ) arg8 fullShare x1 ∗ owns (c : Thread nD τ) arg9 fullShare x2 ∗ owns (c : Thread nD τ) arg10 fullShare (newBlk x1 x2 (scW i _ _ _ hw hcond x0) (wordAt' c tbM0_3 i xt3) (wordAt' c tbM0_4 i xt4) d3) ∗ tbPt0 c tbM0_0 xt0 ∗ tbPt0 c tbM0_1 xt1 ∗ tbPt0 c tbM0_2 xt2 ∗ tbPt0 c tbM0_3 xt3 ∗ tbPt0 c tbM0_4 xt4) -∗ K ⟨⟩))
          ⊢ wp frame (wpE (defs₀ (F := F)) Variants.none c none) E (cc0__body i tbM0_0 htbM0_0 tbM0_1 htbM0_1 tbM0_2 htbM0_2 tbM0_3 htbM0_3 tbM0_4 htbM0_4 arg7 harg7 arg8 harg8 arg9 harg9 arg10 harg10) K := by
    intro E K
    simp only [cc0__body_eq_skeleton]; unfold cc0__body_skel
    unfold owns
    iintro ⟨⟨%f0, %hf0, H0⟩, ⟨%f1, %hf1, H1⟩, ⟨%f2, %hf2, H2⟩, ⟨%f3, %hf3, H3⟩, HT0, HT1, HT2, HT3, HT4, Hk⟩
    subst hf0 hf1 hf2 hf3
    sl_exec_parts
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; swap; · iexact H3
      ipureintro
      refine (View.read_writes_eq_canon _ _ _ (View.cover_of_tiled [⟨_, _⟩] S512x512.size (by rfl))).trans ?_
      refine (View.canon_cons_unit_lit _ _ _ (fun a => by fin_cases a <;> rfl)).trans ?_
      rfl
    isplitl [HT0]; · iexact HT0
    isplitl [HT1]; · iexact HT1
    isplitl [HT2]; · iexact HT2
    isplitl [HT3]; · iexact HT3
    iexact HT4

-- (the run's proof term is large: checking it walks past the default budget)
set_option maxHeartbeats 4000000 in
/-- The body when its visit owns no row: everything stays. -/
theorem run_skip (c : Dev nD) (i : grid0.Coords) (arg7 : Memref sig .tc .smem S3520 .f32) (harg7 : arg7.IsWhole) (arg8 : Memref sig .tc .vmem S512x1408 .bf16) (harg8 : arg8.IsWhole) (arg9 : Memref sig .tc .vmem S1x512x1408 .fp8e4m3) (harg9 : arg9.IsWhole) (arg10 : Memref sig .tc .vmem S512x512 .bf16) (harg10 : arg10.IsWhole)
    (x0 : Vec F S3520 .f32) (x1 : Vec F S512x1408 .bf16) (x2 : Vec F S1x512x1408 .fp8e4m3) (d3 : Vec F S512x512 .bf16) (xt0 : TbBuf0 (F := F) c tbM0_0) (xt1 : TbBuf0 (F := F) c tbM0_1) (xt2 : TbBuf0 (F := F) c tbM0_2) (xt3 : TbBuf0 (F := F) c tbM0_3) (xt4 : TbBuf0 (F := F) c tbM0_4)
    (hw : k0_chk1 i (wordAt c tbM0_0 i xt0) (wordAt c tbM0_4 i xt4) (wordAt c tbM0_3 i xt3))
    (hcond : ¬ k0_cond1 (wordAt c tbM0_4 i xt4) (wordAt c tbM0_3 i xt3) = 1#1) :
      ∀ (E : Set ℕ) (K : PUnit → sProp 𝕄),
        iprop(owns (c : Thread nD τ) arg7 fullShare x0 ∗ owns (c : Thread nD τ) arg8 fullShare x1 ∗ owns (c : Thread nD τ) arg9 fullShare x2 ∗ owns (c : Thread nD τ) arg10 fullShare d3 ∗ tbPt0 c tbM0_0 xt0 ∗ tbPt0 c tbM0_1 xt1 ∗ tbPt0 c tbM0_2 xt2 ∗ tbPt0 c tbM0_3 xt3 ∗ tbPt0 c tbM0_4 xt4
            ∗ (iprop(owns (c : Thread nD τ) arg7 fullShare x0 ∗ owns (c : Thread nD τ) arg8 fullShare x1 ∗ owns (c : Thread nD τ) arg9 fullShare x2 ∗ owns (c : Thread nD τ) arg10 fullShare d3 ∗ tbPt0 c tbM0_0 xt0 ∗ tbPt0 c tbM0_1 xt1 ∗ tbPt0 c tbM0_2 xt2 ∗ tbPt0 c tbM0_3 xt3 ∗ tbPt0 c tbM0_4 xt4) -∗ K ⟨⟩))
          ⊢ wp frame (wpE (defs₀ (F := F)) Variants.none c none) E (cc0__body i tbM0_0 htbM0_0 tbM0_1 htbM0_1 tbM0_2 htbM0_2 tbM0_3 htbM0_3 tbM0_4 htbM0_4 arg7 harg7 arg8 harg8 arg9 harg9 arg10 harg10) K := by
    intro E K
    simp only [cc0__body_eq_skeleton]; unfold cc0__body_skel
    unfold owns
    iintro ⟨⟨%f0, %hf0, H0⟩, ⟨%f1, %hf1, H1⟩, ⟨%f2, %hf2, H2⟩, ⟨%f3, %hf3, H3⟩, HT0, HT1, HT2, HT3, HT4, Hk⟩
    subst hf0 hf1 hf2 hf3
    sl_exec_parts
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; swap; · iexact H3
      ipureintro
      rfl
    isplitl [HT0]; · iexact HT0
    isplitl [HT1]; · iexact HT1
    isplitl [HT2]; · iexact HT2
    isplitl [HT3]; · iexact HT3
    iexact HT4

end Cert.Kernel.Hand

end
-- ==== Proof.K.Bits.Frame.lean ====
/- The frame of the kernel, its output blocks held to a relation: the pipeline's proof data, the obligation of the body at
   every point, the run, and the frame's post. -/
module

public import proofs.«01_k».proof.Proof.K.Bits.RunA
public import Idealize.ShloMosaic.Lib.Pipeline.DatRel
public import Idealize.ShloMosaic.Lib.Claim

@[expose] public section

-- membership in a rectangle of production extents (`View.cover_of_tiled`): the elaborator's structural look
-- recurses once per coordinate of the long axes
set_option maxRecDepth 16384

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output window, of which a relation is stated rather than its contents. -/
def forgets0 : Fin 4 → Bool := fun w => w.val == 3

/-- The proof data of the one pipeline on core `c`: the arrays as the region finds them (`V`); after the body at
    point `t` each input's buffer at its block and the output at `Dat.unnamed`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, h⟩ => Pipeline.Dat.unnamed (cfg := (cfgM m hO)) ⟨3, h⟩ t
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d

/-! ## The body obligation, at a generic point -/

/-- What the checked words satisfy at every point: the body's side condition. -/
def ChkAll (c : Dev nD) : Prop :=
  ∀ i : grid0.Coords, k0_chk1 i (wordAt c tbM0_0 i (tbl m 0)) (wordAt c tbM0_4 i (tbl m 4)) (wordAt c tbM0_3 i (tbl m 3))

/-- The visit's rows are not empty, in the body's words. -/
abbrev CondAt (c : Dev nD) (i : grid0.Coords) : Prop := k0_cond1 (wordAt c tbM0_4 i (tbl m 4)) (wordAt c tbM0_3 i (tbl m 3)) = 1#1

/-- The output block after point `t`'s visit, from the block before it. -/
def outAt (hO : Ok m) (c : Dev nD) (hw : ChkAll m c) (t : Fin (cfgM m hO).N) (d : Vec F S512x512 .bf16) : Vec F S512x512 .bf16 :=
  if h : CondAt m c (grid0.coords t) then
    newBlk (iblk m hO c 1 t) (iblk m hO c 2 t) (scW (grid0.coords t) _ _ _ (hw _) h (iblk m hO c 0 t))
      (wordAt' c tbM0_3 (grid0.coords t) (tbl m 3)) (wordAt' c tbM0_4 (grid0.coords t) (tbl m 4)) d
  else d

/-- The relation each window is held to: `R` at the output, nothing elsewhere. -/
def Rl (hO : Ok m) (R : Fin (cfgM m hO).N → Vec F S512x512 .bf16 → Prop) :
    (w : Fin (cfgM m hO).W) → Fin (cfgM m hO).N → (((cfgM m hO).win w).block.Idx → Elt F ((cfgM m hO).win w).elt) → Prop
  | ⟨0, _⟩ => fun _ _ => True
  | ⟨1, _⟩ => fun _ _ => True
  | ⟨2, _⟩ => fun _ _ => True
  | ⟨3, _⟩ => fun t X => R t X

/-- The proof data with the output held to `R`. -/
abbrev rdat (hO : Ok m) (R : Fin (cfgM m hO).N → Vec F S512x512 .bf16 → Prop) (c : Dev nD) := (dats m hO 0 c).toRRel forgets0 (Rl m hO R)

variable (R : (hO : Ok m) → Dev nD → Fin (cfgM m hO).N → Vec F S512x512 .bf16 → Prop)

/-- What the body is called with at point `t`, the windows one by one, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ Y, ⌜(rdat m hO (R hO c) c).Finds 3 t Y⌝ ∗ owns (c : Thread nD τ) (ms0_3 m hO t) fullShare Y))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ (∃ X, ⌜R hO c t X⌝ ∗ owns (c : Thread nD τ) (ms0_3 m hO t) fullShare X))

/-- The body, in either case, from the block `d` to `outAt`. -/
theorem run_any (hO : Ok m) (c : Dev nD) (hw : ChkAll m c) (t : Fin (cfgM m hO).N) (d : Vec F S512x512 .bf16) (E : Set ℕ) (K : PUnit → sProp 𝕄) :
    iprop(owns (c : Thread nD τ) (ms0_0 m hO t) fullShare (iblk m hO c 0 t) ∗ owns (c : Thread nD τ) (ms0_1 m hO t) fullShare (iblk m hO c 1 t)
        ∗ owns (c : Thread nD τ) (ms0_2 m hO t) fullShare (iblk m hO c 2 t) ∗ owns (c : Thread nD τ) (ms0_3 m hO t) fullShare d
        ∗ tbPt0 c tbM0_0 (tbl m 0) ∗ tbPt0 c tbM0_1 (tbl m 1) ∗ tbPt0 c tbM0_2 (tbl m 2) ∗ tbPt0 c tbM0_3 (tbl m 3) ∗ tbPt0 c tbM0_4 (tbl m 4)
        ∗ (iprop(owns (c : Thread nD τ) (ms0_0 m hO t) fullShare (iblk m hO c 0 t) ∗ owns (c : Thread nD τ) (ms0_1 m hO t) fullShare (iblk m hO c 1 t)
        ∗ owns (c : Thread nD τ) (ms0_2 m hO t) fullShare (iblk m hO c 2 t) ∗ owns (c : Thread nD τ) (ms0_3 m hO t) fullShare (outAt m hO c hw t d)
        ∗ tbPt0 c tbM0_0 (tbl m 0) ∗ tbPt0 c tbM0_1 (tbl m 1) ∗ tbPt0 c tbM0_2 (tbl m 2) ∗ tbPt0 c tbM0_3 (tbl m 3) ∗ tbPt0 c tbM0_4 (tbl m 4)) -∗ K ⟨⟩))
      ⊢ wp frame (wpE (defs₀ (F := F)) Variants.none c none) E (bodyAt0 (adm m hO) t) K := by
  unfold bodyAt0
  by_cases h : CondAt m c (grid0.coords t)
  · rw [show outAt m hO c hw t d = _ from dif_pos h]
    exact run_store c (grid0.coords t) (ms0_0 m hO t) (hs0_0 m hO t) (ms0_1 m hO t) (hs0_1 m hO t) (ms0_2 m hO t) (hs0_2 m hO t) (ms0_3 m hO t) (hs0_3 m hO t) (iblk m hO c 0 t) (iblk m hO c 1 t) (iblk m hO c 2 t) d
      (tbl m 0) (tbl m 1) (tbl m 2) (tbl m 3) (tbl m 4) (hw _) h E K
  · rw [show outAt m hO c hw t d = _ from dif_neg h]
    exact run_skip c (grid0.coords t) (ms0_0 m hO t) (hs0_0 m hO t) (ms0_1 m hO t) (hs0_1 m hO t) (ms0_2 m hO t) (hs0_2 m hO t) (ms0_3 m hO t) (hs0_3 m hO t) (iblk m hO c 0 t) (iblk m hO c 1 t) (iblk m hO c 2 t) d
      (tbl m 0) (tbl m 1) (tbl m 2) (tbl m 3) (tbl m 4) (hw _) h E K

/-- The relation is kept: whatever block the body may find, the block it leaves is related. -/
def Keeps (hO : Ok m) (hw : ∀ c, ChkAll m c) : Prop :=
  ∀ (c : Dev nD) (t : Fin (cfgM m hO).N) (Y : Vec F S512x512 .bf16), (rdat m hO (R hO c) c).Finds 3 t Y → R hO c t (outAt m hO c (hw c) t Y)

/-- The body at any point: the inputs' memrefs hold their blocks, so the run applies; the invariant passes through
    unread; the core owes nothing throughout. -/
theorem sound_body (hO : Ok m) (hw : ∀ c, ChkAll m c) (hR : Keeps m R hO hw) (c : Dev nD) (t : Fin (cfgM m hO).N) :
    bodyPre m R hO c t ⊢ wp frame (wpE (defs₀ (F := F)) Variants.none c none) Set.univ (bodyAt0 (adm m hO) t) (fun _ => bodyPost m R hO c t) := by
  unfold bodyPre bodyPost
  simp only [before0_0, before0_1, before0_2]
  rw [show (dats m hO 0 c).Φ t.succ = (dats m hO 0 c).Φ t.castSucc from rfl,
    show (dats m hO 0 c).owesAt () t.succ = (dats m hO 0 c).owesAt () t.castSucc from rfl,
    after0_0, after0_1, after0_2]
  rw [show (dats m hO 0 c).Φ t.castSucc = iprop(Pipeline.ΦA spec0 c ∗ Pipeline.ΦT pre0 (tbl m) c) from rfl, PhiT0_eq]
  iintro ⟨⟨HΦ, ⟨HT0, HT1, HT2, HT3, HT4⟩⟩, Ho, ⟨%d0, H0⟩, ⟨%d1, H1⟩, ⟨%d2, H2⟩, ⟨%d3, %hd3, H3⟩⟩
  iapply (run_any m hO c (hw c) t d3 Set.univ _)
  isplitl [H0]; · iexact H0
  isplitl [H1]; · iexact H1
  isplitl [H2]; · iexact H2
  isplitl [H3]; · iexact H3
  isplitl [HT0]; · iexact HT0
  isplitl [HT1]; · iexact HT1
  isplitl [HT2]; · iexact HT2
  isplitl [HT3]; · iexact HT3
  isplitl [HT4]; · iexact HT4
  iintro ⟨H0, H1, H2, H3, HT0, HT1, HT2, HT3, HT4⟩
  isplitl [HΦ HT0 HT1 HT2 HT3 HT4]
  · isplitl [HΦ]
    · iexact HΦ
    isplitl [HT0]; · iexact HT0
    isplitl [HT1]; · iexact HT1
    isplitl [HT2]; · iexact HT2
    isplitl [HT3]; · iexact HT3
    iexact HT4
  isplitl [Ho]; · iexact Ho
  isplitl [H0]; · iexact H0
  isplitl [H1]; · iexact H1
  isplitl [H2]; · iexact H2
  iexists _; isplitr; swap; · iexact H3
  ipureintro; exact hR c t d3 hd3

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated. -/
theorem body_obligation (hO : Ok m) (hw : ∀ c, ChkAll m c) (hR : Keeps m R hO hw) (c : Dev nD) :
    Pipeline.BodyObligationRel (dats (F := F) m hO 0 c) (defs₀ (F := F)) Variants.none () Set.univ forgets0 (Rl m hO (R hO c)) := fun t => by
  rw [bigSep_W0, bigSep_W0, defs₀_row m hO]
  exact triple_restated (sound_body m R hO hw hR c t) rfl .rfl fun _ => .rfl

/-! ## The run and the frame -/

-- the launch theorem's implicit arguments are found by unifying its conclusion with this one, which takes unfolding plain
-- definitions in a metavariable's type
set_option backward.isDefEq.respectTransparency.types false in
/-- The launch: the output's array as the relation has it, and every semaphore counter of the machine at zero at every final state. -/
theorem run_main_quiescent (hO : Ok m) (hw : ∀ c, ChkAll m c) (hR : Keeps m R hO hw) : θ_run defs (onTc (τ := τ) (main (F := F))) (s₀ m ρ) (fun r => (Pipeline.RDat.FramePost ((Pipeline.pin pcfgs fun _ => adm m hO) 0) (fun c => rdat m hO (R hO c) c) (V m)) r ∧ r.2.sem = fun _ => 0) :=
  Pipeline.RDat.θ_run_frameP (Q' := _) pcfgs (fun _ => adm m hO) (0 : Fin 1) launch0 defs₀ Variants.none (fun c => rdat m hO (R hO c) c) m ρ main
    (hbody := fun c => (body_obligation m R hO hw hR c).toRRel) (hshare := fun c => (dats m hO 0 c).share_full fun _ => rfl)
    (howed := fun _ _ => rfl) (V := V m) (hmain := hmain m Variants.none) (hA := A_eq m hO) (hpf := V_pre m) (hΦ := fun _ _ => rfl)

/-- The launch without the counters. -/
theorem run_main (hO : Ok m) (hw : ∀ c, ChkAll m c) (hR : Keeps m R hO hw) : θ_run defs (onTc (τ := τ) (main (F := F))) (s₀ m ρ) (Pipeline.RDat.FramePost ((Pipeline.pin pcfgs fun _ => adm m hO) 0) (fun c => rdat m hO (R hO c) c) (V m)) :=
  (θ_run defs _ _).mono (fun _ h => h.1) (run_main_quiescent m ρ R hO hw hR)

/-- The argument arrays end unchanged. -/
theorem unchanged (hO : Ok m) (hw : ∀ c, ChkAll m c) (hR : Keeps m R hO hw) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ hO (fun c => rdat m hO (R hO c) c) (A_eq m hO) (run_main m ρ R hO hw hR)

/-- The frame: the argument arrays end unchanged and the counters end at zero. -/
theorem frame (hO : Ok m) (hw : ∀ c, ChkAll m c) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  have hR : Keeps m (fun _ _ _ _ => True) hO hw := fun _ _ _ _ => trivial
  θ_run_and (unchanged m ρ _ hO hw hR) ((θ_run defs _ _).mono (fun _ h => h.2) (run_main_quiescent m ρ _ hO hw hR))

end Cert.Kernel.Hand

end
-- ==== Proof.K.Bits.Tables.lean ====
/- The tables' words where the group sizes are naturals that add up to the rows: what the body and the index maps read at a grid point, so
   that every block is inside its array (`Ok`) and every scale the body reads is inside the scales' vector (`ChkAll`). -/
module

public import proofs.«01_k».proof.Proof.K.Bits.Prefix
public import proofs.«01_k».proof.Proof.K.Bits.Frame

@[expose] public section

noncomputable section

namespace Cert.Kernel.Hand

open Cert.Kernel.Gen Cert.Sched
open Idealize.ShloMosaic Idealize.ShloMosaic.TcCoe Idealize.ShloMosaic.StableHlo
open Idealize.ShloMosaic.ValueIdx

variable {F : FTy → Type} [FloatOps F]
variable (m : (ℓ : Loc nD τ sig) → Buf (Elt F) ℓ)

/-- The visit of a grid point. -/
abbrev vis (i : grid0.Coords) : Fin 19 := i 1

theorem off1_val (i : grid0.Coords) : k0_off1 i = ![(vis i).val] := by
  have h : (vis i).val < 19 := (vis i).isLt
  funext a
  match a with
  | ⟨0, _⟩ =>
    show (BitVec.ofNat 32 (vis i).val).toNat = (vis i).val
    rw [BitVec.toNat_ofNat, Nat.mod_eq_of_lt (by omega)]

theorem off3_val (i : grid0.Coords) : k0_off3 i = ![(vis i).val] := off1_val i

theorem idx_at (i : grid0.Coords) (off : Fin 1 → Nat) (h : ∀ a, off a + S1.size a ≤ S19.size a) (e : off = ![(vis i).val])
    (hn : 0 < (Rect.unit (s := S19) off S1.size h).shape.numel) :
    (Rect.unit (s := S19) off S1.size h).emb (Shape.Idx.first hn) = ix1 (vis i) := by
  subst e
  funext a
  match a with
  | ⟨0, _⟩ => exact Fin.ext (by
      rw [Rect.emb_apply]
      rfl)

theorem word_eq (c : Dev nD) (M : Memref sig .tc .smem S19 .i32) (i : grid0.Coords) (xt : TbBuf0 (F := F) c M) :
    wordAt c M i xt = M.view.read (Elt F) xt (ix1 (vis i)) := by
  rw [← idx_at i _ (k0_off1_inb i) (off1_val i) (show 0 < S1.numel by decide)]
  rfl

theorem word_eq' (c : Dev nD) (M : Memref sig .tc .smem S19 .i32) (i : grid0.Coords) (xt : TbBuf0 (F := F) c M) :
    wordAt' c M i xt = M.view.read (Elt F) xt (ix1 (vis i)) := by
  rw [← idx_at i _ (k0_off3_inb i) (off3_val i) (show 0 < S1.numel by decide)]
  rfl

variable {f : ℕ → ℕ} (hf : En f 7 = 6144) (hg : ∀ c, Holds (gsz m c) f)

include hf hg

theorem w_gr (c : Dev nD) (i : grid0.Coords) : wordAt c tbM0_0 i (tbl m 0) = BitVec.ofNat 32 (gr f (vis i)) :=
  (word_eq c tbM0_0 i (tbl m 0)).trans (tab_gr m 0 hf (hg 0) (vis i))

theorem w_lo (c : Dev nD) (i : grid0.Coords) : wordAt c tbM0_3 i (tbl m 3) = BitVec.ofNat 32 (lo f (vis i)) :=
  (word_eq c tbM0_3 i (tbl m 3)).trans (tab_lo m 0 hf (hg 0) (vis i))

theorem w_hi (c : Dev nD) (i : grid0.Coords) : wordAt c tbM0_4 i (tbl m 4) = BitVec.ofNat 32 (hi f (vis i)) :=
  (word_eq c tbM0_4 i (tbl m 4)).trans (tab_hi m 0 hf (hg 0) (vis i))

theorem w_lo' (c : Dev nD) (i : grid0.Coords) : wordAt' c tbM0_3 i (tbl m 3) = BitVec.ofNat 32 (lo f (vis i)) :=
  (word_eq' c tbM0_3 i (tbl m 3)).trans (tab_lo m 0 hf (hg 0) (vis i))

theorem w_hi' (c : Dev nD) (i : grid0.Coords) : wordAt' c tbM0_4 i (tbl m 4) = BitVec.ofNat 32 (hi f (vis i)) :=
  (word_eq' c tbM0_4 i (tbl m 4)).trans (tab_hi m 0 hf (hg 0) (vis i))

theorem m_gr (i : grid0.Coords) :
    (tbl m 0 ((Rect.unit (s := S19) (k0_off1 i) S1.size (k0_off1_inb i)).emb (Shape.Idx.first (numel1_S1.symm ▸ Nat.one_pos))) : BitVec 32)
      = BitVec.ofNat 32 (gr f (vis i)) :=
  (congrArg (fun j : S19.Idx => (tbl m 0 j : BitVec 32)) (idx_at i _ (k0_off1_inb i) (off1_val i) (show 0 < S1.numel by decide))).trans (tab_gr m 0 hf (hg 0) (vis i))

theorem m_tl (i : grid0.Coords) :
    (tbl m 1 ((Rect.unit (s := S19) (k0_off1 i) S1.size (k0_off1_inb i)).emb (Shape.Idx.first (numel1_S1.symm ▸ Nat.one_pos))) : BitVec 32)
      = BitVec.ofNat 32 (tl f (vis i)) :=
  (congrArg (fun j : S19.Idx => (tbl m 1 j : BitVec 32)) (idx_at i _ (k0_off1_inb i) (off1_val i) (show 0 < S1.numel by decide))).trans (tab_tl m 0 hf (hg 0) (vis i))

theorem map_1 (i : grid0.Coords) : cc0_transform_1 k0_off1_inb numel1_S1 (tbl m) i = ![tl f (vis i), 0] := by
  have h := tl_le hf (vis i).val
  refine (congrArg (fun w : BitVec 32 => (![w.toNat, 0] : Fin 2 → ℕ)) (m_tl m hf hg i)).trans ?_
  rw [BitVec.toNat_ofNat, Nat.mod_eq_of_lt (by omega)]

theorem map_2 (i : grid0.Coords) : cc0_transform_2 k0_off1_inb numel1_S1 (tbl m) i = ![gr f (vis i), (i 0).val, 0] := by
  have h := (gr_spec hf (vis i).val).1
  have h0 : (i 0).val < 10 := (i 0).isLt
  refine (congrArg (fun w : BitVec 32 => (![w.toNat, (BitVec.ofNat 32 (i 0).val).toNat, 0] : Fin 3 → ℕ)) (m_gr m hf hg i)).trans ?_
  rw [BitVec.toNat_ofNat, BitVec.toNat_ofNat, Nat.mod_eq_of_lt (by omega), Nat.mod_eq_of_lt (by omega)]

theorem map_3 (i : grid0.Coords) : cc0_transform_3 k0_off1_inb numel1_S1 (tbl m) i = ![tl f (vis i), (i 0).val] := by
  have h := tl_le hf (vis i).val
  have h0 : (i 0).val < 10 := (i 0).isLt
  refine (congrArg (fun w : BitVec 32 => (![w.toNat, (BitVec.ofNat 32 (i 0).val).toNat] : Fin 2 → ℕ)) (m_tl m hf hg i)).trans ?_
  rw [BitVec.toNat_ofNat, BitVec.toNat_ofNat, Nat.mod_eq_of_lt (by omega), Nat.mod_eq_of_lt (by omega)]

/-- Every block is inside its array, and its transfer is whole words. -/
theorem ok : Ok m := by
  refine ⟨fun i => ?_, fun i => ?_, fun i => ?_⟩
  · rw [map_1 m hf hg i]
    have h := tl_le hf (vis i).val
    refine ⟨fun a => ?_, Or.inr (Or.inl (Or.inr ⟨Nat.le_refl 2, rfl, Or.inl ⟨?_, ⟨256, rfl⟩⟩⟩))⟩
    · match a with
      | ⟨0, _⟩ => show (tl f (vis i) + 1) * 512 ≤ 6144; omega
      | ⟨1, _⟩ => show (0 + 1) * 1408 ≤ 1408; omega
    · show 2 ∣ tl f (vis i) * 512
      omega
  · rw [map_2 m hf hg i]
    have h := (gr_spec hf (vis i).val).1
    have h0 : (i 0).val < 10 := (i 0).isLt
    refine ⟨fun a => ?_, Or.inr (Or.inl (Or.inr ⟨Nat.le_succ 2, rfl, Or.inl ⟨?_, ⟨128, rfl⟩⟩⟩))⟩
    · match a with
      | ⟨0, _⟩ => show (gr f (vis i) + 1) * 1 ≤ 8; omega
      | ⟨1, _⟩ => show ((i 0).val + 1) * 512 ≤ 5120; omega
      | ⟨2, _⟩ => show (0 + 1) * 1408 ≤ 1408; omega
    · show 4 ∣ (i 0).val * 512
      omega
  · rw [map_3 m hf hg i]
    have h := tl_le hf (vis i).val
    have h0 : (i 0).val < 10 := (i 0).isLt
    refine ⟨fun a => ?_, Or.inr (Or.inl (Or.inr ⟨Nat.le_refl 2, rfl, Or.inl ⟨?_, ⟨256, rfl⟩⟩⟩))⟩
    · match a with
      | ⟨0, _⟩ => show (tl f (vis i) + 1) * 512 ≤ 6144; omega
      | ⟨1, _⟩ => show ((i 0).val + 1) * 512 ≤ 5120; omega
    · show 2 ∣ tl f (vis i) * 512
      omega

omit hg hf in
/-- Where the scale of weight block `(r₁, r₂)` of a grid point lies. -/
theorem off2_val (i : grid0.Coords) {g : ℕ} (hg8 : g < 8) (r₁ : Fin 4) (r₂ : Fin 11) :
    k0_off2 i (BitVec.ofNat 32 g) (BitVec.ofNat 32 r₁.val) (BitVec.ofNat 32 r₂.val)
      = ![(g * 40 + (i 0).val * 4 + r₁.val) * 11 + r₂.val] := by
  have h0 : (i 0).val < 10 := (i 0).isLt
  have h1 := r₁.isLt
  have h2 := r₂.isLt
  unfold k0_off2
  dsimp only
  simp only [Scalar.muli, Scalar.addi, WordCmp.muli_ofNat, WordCmp.addi_ofNat]
  funext a
  match a with
  | ⟨0, _⟩ =>
    show (BitVec.ofNat 32 ((g * 40 + (i 0).val * 4 + r₁.val) * 11 + r₂.val)).toNat = _
    rw [BitVec.toNat_ofNat, Nat.mod_eq_of_lt (by omega)]
    rfl

/-- Every scale the body reads is inside the scales' vector. -/
theorem chk (c : Dev nD) : ChkAll m c := fun i => by
  rw [w_gr m hf hg c i]
  intro _ r₁ r₂ a
  have h0 : (i 0).val < 10 := (i 0).isLt
  have h1 := r₁.isLt
  have h2 := r₂.isLt
  have h := (gr_spec hf (vis i).val).1
  rw [off2_val i h r₁ r₂]
  match a with
  | ⟨0, _⟩ =>
    show (gr f (vis i) * 40 + (i 0).val * 4 + r₁.val) * 11 + r₂.val + 1 ≤ 3520
    omega

end Cert.Kernel.Hand

end
-- ==== Proof.K.Ideal.Setup.lean ====
/- The kernel's launch, before its body is run: @main's stretches of host operations and what they leave in the buffers (`V`), the five
   prefetched tables read off that (`tbl`), the pipeline at them under the side condition of their contents (`Ok`), each window's
   block at a point (`iblk`), and the frame claim's post from any proof data's run. -/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- The stretches of host operations before the region, in order. -/
abbrev hostAll : List (List (HloOp τ sig (Elt F))) := [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18]

/-- Core `c`'s TensorCore buffers when the region is entered: after the host operations. -/
def V (c : Dev nD) (b : Ref sig .tc) : Buf (Elt F) ((c : Thread nD τ).loc b) :=
  StableHlo.after (List.flatten hostAll) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor

set_option maxHeartbeats 1600000 in
/-- @main up to the region: the lines of host operations then the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main hostAll (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostAll, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostAll, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostAll, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostAll, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 5) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S19 .i32 := Memref.whole main_v19
abbrev htbM0_0 : tbM0_0.IsWhole := Memref.isWhole_whole _
abbrev tbM0_1 : Memref sig .tc .smem S19 .i32 := Memref.whole main_v44
abbrev htbM0_1 : tbM0_1.IsWhole := Memref.isWhole_whole _
abbrev tbM0_2 : Memref sig .tc .smem S19 .i32 := Memref.whole main_v72
abbrev htbM0_2 : tbM0_2.IsWhole := Memref.isWhole_whole _
abbrev tbM0_3 : Memref sig .tc .smem S19 .i32 := Memref.whole main_v55
abbrev htbM0_3 : tbM0_3.IsWhole := Memref.isWhole_whole _
abbrev tbM0_4 : Memref sig .tc .smem S19 .i32 := Memref.whole main_v71
abbrev htbM0_4 : tbM0_4.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2) ∗ tbPt0 c tbM0_3 (tbl m 3) ∗ tbPt0 c tbM0_4 (tbl m 4)) := by
  unfold Pipeline.ΦT Pipeline.prefHeld
  rw [show (Finset.univ : Finset (Fin 5)) = insert (0 : Fin 5) (insert (1 : Fin 5) (insert (2 : Fin 5) (insert (3 : Fin 5) {(4 : Fin 5)}))) from by decide,
    bigSep_insert (by decide), bigSep_insert (by decide), bigSep_insert (by decide), bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(Pipeline.RDat.FramePost.arr_in h c 1 rfl).trans ((hA c 1).trans (V_main_arg0 m c)),
      ((h c).2 main_arg1 (by decide : main_arg1 ∈ Pipeline.restRefs sig spec0)).trans (V_main_arg1 m c),
      (Pipeline.RDat.FramePost.arr_in h c 2 rfl).trans ((hA c 2).trans (V_main_arg2 m c)),
      ((h c).2 main_arg3 (by decide : main_arg3 ∈ Pipeline.restRefs sig spec0)).trans (V_main_arg3 m c)⟩) h

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .smem S3520 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S512x1408 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x512x1408 .fp8e4m3 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S512x512 .bf16 := spec0_3.stage ((cfgM m hO).slots t 3)
abbrev hs0_3 (hO : Ok m) (t : Fin (cfgM m hO).N) : (ms0_3 m hO t).IsWhole := hstage0_3 (((cfgM m hO).slots t 3).cast nbuf0_3)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0__body (grid0.coords t) (Memref.whole main_v19) (Memref.isWhole_whole _) (Memref.whole main_v44) (Memref.isWhole_whole _) (Memref.whole main_v72) (Memref.isWhole_whole _) (Memref.whole main_v55) (Memref.isWhole_whole _) (Memref.whole main_v71) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3))

end Cert.KernelIdeal.Hand

end
-- ==== Proof.K.Ideal.Prefix.lean ====
/- The tables the launch makes from the group sizes: each buffer of the host operations that the tables read, stretch after stretch, as the
   arrays of `Sched`; then what the five tables hold where the sizes are natural numbers that add up to the rows. -/
module

public import proofs.«01_k».proof.Proof.K.Ideal.Setup
public import proofs.«01_k».proof.Proof.K.Words
public import Idealize.ShloMosaic.Lib.StableHlo.RunRead

@[expose] public section

noncomputable section

namespace Cert.KernelIdeal.Hand

open Cert.KernelIdeal.Gen Cert.Sched
open Idealize.ShloMosaic Idealize.ShloMosaic.TcCoe Idealize.ShloMosaic.StableHlo
open Idealize.ShloMosaic.ValueIdx

variable {F : FTy → Type} [FloatOps F]
variable (m : (ℓ : Loc nD τ sig) → Buf (Elt F) ℓ) (c : Dev nD)

/-! ## The buffers after each part of the host operations -/

def W0 : Valuation τ sig (Elt F) := fun b => m (c, b)
def WA : Valuation τ sig (Elt F) := after (hostOps0) (W0 m c)
def WB : Valuation τ sig (Elt F) := after (hostOps0_1 ++ hostOps0_2 ++ hostOps0_3 ++ hostOps0_4 ++ hostOps0_5 ++ hostOps0_6) (WA m c)
def WC : Valuation τ sig (Elt F) := after (hostOps0_7) (WB m c)
def WD : Valuation τ sig (Elt F) := after (hostOps0_8) (WC m c)
def WE : Valuation τ sig (Elt F) := after (hostOps0_9) (WD m c)
def WF : Valuation τ sig (Elt F) := after (hostOps0_10 ++ hostOps0_11 ++ hostOps0_12) (WE m c)
def WG : Valuation τ sig (Elt F) := after (hostOps0_13) (WF m c)
def WH : Valuation τ sig (Elt F) := after (hostOps0_14 ++ hostOps0_15) (WG m c)
def WI : Valuation τ sig (Elt F) := after (hostOps0_16 ++ hostOps0_17) (WH m c)
def WJ : Valuation τ sig (Elt F) := after (hostOps0_18) (WI m c)

theorem V_eq (b : Ref sig .tc) : V m c b = WJ m c (Proc.devRef .tc b) := by
  unfold V WJ WI WH WG WF WE WD WC WB WA
  simp only [← StableHlo.after_append]
  rfl

theorem W0_arg1 : W0 m c (Proc.devRef .tc main_arg1) = m (c, Proc.devRef .tc main_arg1) := rfl

/-- The group sizes as launched. -/
abbrev gsz : IVec S8 32 := m (c, Proc.devRef .tc main_arg1)

theorem WA_main_v0 : WA m c (Proc.devRef .tc main_v0) = Host.reduceWindow IntOp.addi ![8] ![1] ![7] ![0] (gsz m c) (broadcastInDim S_ ![] bcast_S_S_ (constantI S_ 32 0#32)) reduceWindows_S8_S8_w8s1p7_0 h_S_ := by
  unfold WA
  after_reads_simp
  try simp -implicitDefEqProofs only [StableHlo.TRef.toBuf, StableHlo.TRef.ofBuf, cast_cast, cast_eq, id_eq]
  try simp only [W0_arg1]
  try rfl

theorem WA_main_arg1 : WA m c (Proc.devRef .tc main_arg1) = gsz m c := by
  unfold WA
  after_reads_simp
  try simp -implicitDefEqProofs only [StableHlo.TRef.toBuf, StableHlo.TRef.ofBuf, cast_cast, cast_eq, id_eq]
  try simp only [W0_arg1]
  try rfl

theorem WB_main_v0 : WB m c (Proc.devRef .tc main_v0) = WA m c (Proc.devRef .tc main_v0) := by
  unfold WB
  after_reads_simp
  try simp -implicitDefEqProofs only [StableHlo.TRef.toBuf, StableHlo.TRef.ofBuf, cast_cast, cast_eq, id_eq]
  try rfl

theorem WB_main_v1 : WB m c (Proc.devRef .tc main_v1) = subi (WA m c (Proc.devRef .tc main_v0) : IVec S8 32) (gsz m c) := by
  unfold WB
  after_reads_simp
  try simp -implicitDefEqProofs only [StableHlo.TRef.toBuf, StableHlo.TRef.ofBuf, cast_cast, cast_eq, id_eq]
  try simp only [WA_main_arg1]
  try rfl

theorem WB_main_v11 : WB m c (Proc.devRef .tc main_v11) = ntV bcast_S_S8 (gsz m c) (WA m c (Proc.devRef .tc main_v0)) := by
  unfold WB
  after_reads_simp
  try simp -implicitDefEqProofs only [StableHlo.TRef.toBuf, StableHlo.TRef.ofBuf, cast_cast, cast_eq, id_eq]
  try simp only [WA_main_arg1]
  try rfl

theorem WC_main_v0 : WC m c (Proc.devRef .tc main_v0) = WA m c (Proc.devRef .tc main_v0) := by
  unfold WC
  after_reads_simp
  try simp -implicitDefEqProofs only [StableHlo.TRef.toBuf, StableHlo.TRef.ofBuf, cast_cast, cast_eq, id_eq]
  try simp only [WB_main_v0]
  try rfl

theorem WC_main_v1 : WC m c (Proc.devRef .tc main_v1) = WB m c (Proc.devRef .tc main_v1) := by
  unfold WC
  after_reads_simp
  try simp -implicitDefEqProofs only [StableHlo.TRef.toBuf, StableHlo.TRef.ofBuf, cast_cast, cast_eq, id_eq]
  try rfl

theorem WC_main_v11 : WC m c (Proc.devRef .tc main_v11) = WB m c (Proc.devRef .tc main_v11) := by
  unfold WC
  after_reads_simp
  try simp -implicitDefEqProofs only [StableHlo.TRef.toBuf, StableHlo.TRef.ofBuf, cast_cast, cast_eq, id_eq]
  try rfl

theorem WC_main_v12 : WC m c (Proc.devRef .tc main_v12) = Host.reduceWindow IntOp.addi ![8] ![1] ![7] ![0] (WB m c (Proc.devRef .tc main_v11) : IVec S8 32) (broadcastInDim S_ ![] bcast_S_S_ (constantI S_ 32 0#32)) reduceWindows_S8_S8_w8s1p7_0 h_S_ := by
  unfold WC
  after_reads_simp
  try simp -implicitDefEqProofs only [StableHlo.TRef.toBuf, StableHlo.TRef.ofBuf, cast_cast, cast_eq, id_eq]
  try rfl

theorem WD_main_v13 : WD m c (Proc.devRef .tc main_v13) = iotaInDim S19 32 0 := by
  unfold WD
  after_reads_simp
  try simp -implicitDefEqProofs only [StableHlo.TRef.toBuf, StableHlo.TRef.ofBuf, cast_cast, cast_eq, id_eq]
  try rfl

theorem WD_main_v0 : WD m c (Proc.devRef .tc main_v0) = WA m c (Proc.devRef .tc main_v0) := by
  unfold WD
  after_reads_simp
  try simp -implicitDefEqProofs only [StableHlo.TRef.toBuf, StableHlo.TRef.ofBuf, cast_cast, cast_eq, id_eq]
  try simp only [WC_main_v0]
  try rfl

theorem WD_main_v1 : WD m c (Proc.devRef .tc main_v1) = WB m c (Proc.devRef .tc main_v1) := by
  unfold WD
  after_reads_simp
  try simp -implicitDefEqProofs only [StableHlo.TRef.toBuf, StableHlo.TRef.ofBuf, cast_cast, cast_eq, id_eq]
  try simp only [WC_main_v1]
  try rfl

theorem WD_main_v11 : WD m c (Proc.devRef .tc main_v11) = WB m c (Proc.devRef .tc main_v11) := by
  unfold WD
  after_reads_simp
  try simp -implicitDefEqProofs only [StableHlo.TRef.toBuf, StableHlo.TRef.ofBuf, cast_cast, cast_eq, id_eq]
  try simp only [WC_main_v11]
  try rfl

theorem WD_main_v12 : WD m c (Proc.devRef .tc main_v12) = WC m c (Proc.devRef .tc main_v12) := by
  unfold WD
  after_reads_simp
  try simp -implicitDefEqProofs only [StableHlo.TRef.toBuf, StableHlo.TRef.ofBuf, cast_cast, cast_eq, id_eq]
  try rfl

theorem WD_main_v18 : WD m c (Proc.devRef .tc main_v18) = vcV bcast_S_S19 slices_S8_S1_7 shapeCasts_S1_S_ (WC m c (Proc.devRef .tc main_v12)) := by
  unfold WD
  after_reads_simp
  try simp -implicitDefEqProofs only [StableHlo.TRef.toBuf, StableHlo.TRef.ofBuf, cast_cast, cast_eq, id_eq]
  try rfl

theorem WE_main_v13 : WE m c (Proc.devRef .tc main_v13) = iotaInDim S19 32 0 := by
  unfold WE
  after_reads_simp
  try simp -implicitDefEqProofs only [StableHlo.TRef.toBuf, StableHlo.TRef.ofBuf, cast_cast, cast_eq, id_eq]
  try simp only [WD_main_v13]
  try rfl

theorem WE_main_v0 : WE m c (Proc.devRef .tc main_v0) = WA m c (Proc.devRef .tc main_v0) := by
  unfold WE
  after_reads_simp
  try simp -implicitDefEqProofs only [StableHlo.TRef.toBuf, StableHlo.TRef.ofBuf, cast_cast, cast_eq, id_eq]
  try simp only [WD_main_v0]
  try rfl

theorem WE_main_v1 : WE m c (Proc.devRef .tc main_v1) = WB m c (Proc.devRef .tc main_v1) := by
  unfold WE
  after_reads_simp
  try simp -implicitDefEqProofs only [StableHlo.TRef.toBuf, StableHlo.TRef.ofBuf, cast_cast, cast_eq, id_eq]
  try simp only [WD_main_v1]
  try rfl

theorem WE_main_v11 : WE m c (Proc.devRef .tc main_v11) = WB m c (Proc.devRef .tc main_v11) := by
  unfold WE
  after_reads_simp
  try simp -implicitDefEqProofs only [StableHlo.TRef.toBuf, StableHlo.TRef.ofBuf, cast_cast, cast_eq, id_eq]
  try simp only [WD_main_v11]
  try rfl

theorem WE_main_v12 : WE m c (Proc.devRef .tc main_v12) = WC m c (Proc.devRef .tc main_v12) := by
  unfold WE
  after_reads_simp
  try simp -implicitDefEqProofs only [StableHlo.TRef.toBuf, StableHlo.TRef.ofBuf, cast_cast, cast_eq, id_eq]
  try simp only [WD_main_v12]
  try rfl

theorem WE_main_v18 : WE m c (Proc.devRef .tc main_v18) = WD m c (Proc.devRef .tc main_v18) := by
  unfold WE
  after_reads_simp
  try simp -implicitDefEqProofs only [StableHlo.TRef.toBuf, StableHlo.TRef.ofBuf, cast_cast, cast_eq, id_eq]
  try rfl

theorem WE_main_v19 : WE m c (Proc.devRef .tc main_v19) = grV bcast_S8_S8x1_0 bcast_S8x1_S8x19_0_1 bcast_S19_S1x19_1 bcast_S1x19_S8x19_0_1 natLt_1_32 reducesTo_S8x19_S19_d0 h_S_ (WC m c (Proc.devRef .tc main_v12)) (WD m c (Proc.devRef .tc main_v18)) := by
  unfold WE
  after_reads_simp
  try simp -implicitDefEqProofs only [StableHlo.TRef.toBuf, StableHlo.TRef.ofBuf, cast_cast, cast_eq, id_eq]
  try simp only [WD_main_v12]
  try rfl

theorem WF_main_v13 : WF m c (Proc.devRef .tc main_v13) = iotaInDim S19 32 0 := by
  unfold WF
  after_reads_simp
  try simp -implicitDefEqProofs only [StableHlo.TRef.toBuf, StableHlo.TRef.ofBuf, cast_cast, cast_eq, id_eq]
  try simp only [WE_main_v13]
  try rfl

theorem WF_main_v0 : WF m c (Proc.devRef .tc main_v0) = WA m c (Proc.devRef .tc main_v0) := by
  unfold WF
  after_reads_simp
  try simp -implicitDefEqProofs only [StableHlo.TRef.toBuf, StableHlo.TRef.ofBuf, cast_cast, cast_eq, id_eq]
  try simp only [WE_main_v0]
  try rfl

theorem WF_main_v1 : WF m c (Proc.devRef .tc main_v1) = WB m c (Proc.devRef .tc main_v1) := by
  unfold WF
  after_reads_simp
  try simp -implicitDefEqProofs only [StableHlo.TRef.toBuf, StableHlo.TRef.ofBuf, cast_cast, cast_eq, id_eq]
  try simp only [WE_main_v1]
  try rfl

theorem WF_main_v12 : WF m c (Proc.devRef .tc main_v12) = WC m c (Proc.devRef .tc main_v12) := by
  unfold WF
  after_reads_simp
  try simp -implicitDefEqProofs only [StableHlo.TRef.toBuf, StableHlo.TRef.ofBuf, cast_cast, cast_eq, id_eq]
  try simp only [WE_main_v12]
  try rfl

theorem WF_main_v19 : WF m c (Proc.devRef .tc main_v19) = WE m c (Proc.devRef .tc main_v19) := by
  unfold WF
  after_reads_simp
  try simp -implicitDefEqProofs only [StableHlo.TRef.toBuf, StableHlo.TRef.ofBuf, cast_cast, cast_eq, id_eq]
  try rfl

theorem WF_main_c_16 : WF m c (Proc.devRef .tc main_c_16) = constantI S_ 32 0#32 := by
  unfold WF
  after_reads_simp
  try simp -implicitDefEqProofs only [StableHlo.TRef.toBuf, StableHlo.TRef.ofBuf, cast_cast, cast_eq, id_eq]
  try rfl

theorem WF_main_c_17 : WF m c (Proc.devRef .tc main_c_17) = constantI S_ 32 512#32 := by
  unfold WF
  after_reads_simp
  try simp -implicitDefEqProofs only [StableHlo.TRef.toBuf, StableHlo.TRef.ofBuf, cast_cast, cast_eq, id_eq]
  try rfl

theorem WF_main_v44 : WF m c (Proc.devRef .tc main_v44) = tlV bcast_S_S19 bcast_S19_S19x1_0 gather_S8_S19x1_S19_n_0_n_n_0_1_1 (WB m c (Proc.devRef .tc main_v1)) (WB m c (Proc.devRef .tc main_v11)) (WC m c (Proc.devRef .tc main_v12)) (WD m c (Proc.devRef .tc main_v18)) (WE m c (Proc.devRef .tc main_v19)) := by
  unfold WF
  after_reads_simp
  try simp -implicitDefEqProofs only [StableHlo.TRef.toBuf, StableHlo.TRef.ofBuf, cast_cast, cast_eq, id_eq]
  try simp only [WE_main_v1, WE_main_v11, WE_main_v12, WE_main_v18]
  try rfl

theorem WF_main_v54 : WF m c (Proc.devRef .tc main_v54) = subi (takeV bcast_S_S19 bcast_S19_S19x1_0 gather_S8_S19x1_S19_n_0_n_n_0_1_1 (WB m c (Proc.devRef .tc main_v1)) (WE m c (Proc.devRef .tc main_v19))) (muli (WF m c (Proc.devRef .tc main_v44) : IVec S19 32) (broadcastInDim S19 ![] bcast_S_S19 (constantI S_ 32 512#32))) := by
  rw [WF_main_v44]
  unfold WF
  after_reads_simp
  try simp -implicitDefEqProofs only [StableHlo.TRef.toBuf, StableHlo.TRef.ofBuf, cast_cast, cast_eq, id_eq]
  try simp only [WE_main_v1, WE_main_v11, WE_main_v12, WE_main_v18]
  try rfl

theorem WG_main_v13 : WG m c (Proc.devRef .tc main_v13) = iotaInDim S19 32 0 := by
  unfold WG
  after_reads_simp
  try simp -implicitDefEqProofs only [StableHlo.TRef.toBuf, StableHlo.TRef.ofBuf, cast_cast, cast_eq, id_eq]
  try simp only [WF_main_v13]
  try rfl

theorem WG_main_v0 : WG m c (Proc.devRef .tc main_v0) = WA m c (Proc.devRef .tc main_v0) := by
  unfold WG
  after_reads_simp
  try simp -implicitDefEqProofs only [StableHlo.TRef.toBuf, StableHlo.TRef.ofBuf, cast_cast, cast_eq, id_eq]
  try simp only [WF_main_v0]
  try rfl

theorem WG_main_v12 : WG m c (Proc.devRef .tc main_v12) = WC m c (Proc.devRef .tc main_v12) := by
  unfold WG
  after_reads_simp
  try simp -implicitDefEqProofs only [StableHlo.TRef.toBuf, StableHlo.TRef.ofBuf, cast_cast, cast_eq, id_eq]
  try simp only [WF_main_v12]
  try rfl

theorem WG_main_v19 : WG m c (Proc.devRef .tc main_v19) = WE m c (Proc.devRef .tc main_v19) := by
  unfold WG
  after_reads_simp
  try simp -implicitDefEqProofs only [StableHlo.TRef.toBuf, StableHlo.TRef.ofBuf, cast_cast, cast_eq, id_eq]
  try simp only [WF_main_v19]
  try rfl

theorem WG_main_v44 : WG m c (Proc.devRef .tc main_v44) = WF m c (Proc.devRef .tc main_v44) := by
  unfold WG
  after_reads_simp
  try simp -implicitDefEqProofs only [StableHlo.TRef.toBuf, StableHlo.TRef.ofBuf, cast_cast, cast_eq, id_eq]
  try rfl

theorem WG_main_v55 : WG m c (Proc.devRef .tc main_v55) = cutV bcast_S_S19 bcast_S19_S19x1_0 gather_S8_S19x1_S19_n_0_n_n_0_1_1 (WB m c (Proc.devRef .tc main_v1)) (WE m c (Proc.devRef .tc main_v19)) (WF m c (Proc.devRef .tc main_v44)) := by
  unfold WG
  after_reads_simp
  try simp -implicitDefEqProofs only [StableHlo.TRef.toBuf, StableHlo.TRef.ofBuf, cast_cast, cast_eq, id_eq]
  rw [WF_main_v54, WF_main_c_16, WF_main_c_17]
  try rfl

theorem WH_main_v13 : WH m c (Proc.devRef .tc main_v13) = iotaInDim S19 32 0 := by
  unfold WH
  after_reads_simp
  try simp -implicitDefEqProofs only [StableHlo.TRef.toBuf, StableHlo.TRef.ofBuf, cast_cast, cast_eq, id_eq]
  try simp only [WG_main_v13]
  try rfl

theorem WH_main_v12 : WH m c (Proc.devRef .tc main_v12) = WC m c (Proc.devRef .tc main_v12) := by
  unfold WH
  after_reads_simp
  try simp -implicitDefEqProofs only [StableHlo.TRef.toBuf, StableHlo.TRef.ofBuf, cast_cast, cast_eq, id_eq]
  try simp only [WG_main_v12]
  try rfl

theorem WH_main_v19 : WH m c (Proc.devRef .tc main_v19) = WE m c (Proc.devRef .tc main_v19) := by
  unfold WH
  after_reads_simp
  try simp -implicitDefEqProofs only [StableHlo.TRef.toBuf, StableHlo.TRef.ofBuf, cast_cast, cast_eq, id_eq]
  try simp only [WG_main_v19]
  try rfl

theorem WH_main_v44 : WH m c (Proc.devRef .tc main_v44) = WF m c (Proc.devRef .tc main_v44) := by
  unfold WH
  after_reads_simp
  try simp -implicitDefEqProofs only [StableHlo.TRef.toBuf, StableHlo.TRef.ofBuf, cast_cast, cast_eq, id_eq]
  try simp only [WG_main_v44]
  try rfl

theorem WH_main_v55 : WH m c (Proc.devRef .tc main_v55) = WG m c (Proc.devRef .tc main_v55) := by
  unfold WH
  after_reads_simp
  try simp -implicitDefEqProofs only [StableHlo.TRef.toBuf, StableHlo.TRef.ofBuf, cast_cast, cast_eq, id_eq]
  try rfl

theorem WH_main_v66 : WH m c (Proc.devRef .tc main_v66) = cutV bcast_S_S19 bcast_S19_S19x1_0 gather_S8_S19x1_S19_n_0_n_n_0_1_1 (WA m c (Proc.devRef .tc main_v0)) (WE m c (Proc.devRef .tc main_v19)) (WF m c (Proc.devRef .tc main_v44)) := by
  unfold WH
  after_reads_simp
  try simp -implicitDefEqProofs only [StableHlo.TRef.toBuf, StableHlo.TRef.ofBuf, cast_cast, cast_eq, id_eq]
  try simp only [WG_main_v0, WG_main_v19, WG_main_v44]
  try rfl

theorem WI_main_v19 : WI m c (Proc.devRef .tc main_v19) = WE m c (Proc.devRef .tc main_v19) := by
  unfold WI
  after_reads_simp
  try simp -implicitDefEqProofs only [StableHlo.TRef.toBuf, StableHlo.TRef.ofBuf, cast_cast, cast_eq, id_eq]
  try simp only [WH_main_v19]
  try rfl

theorem WI_main_v44 : WI m c (Proc.devRef .tc main_v44) = WF m c (Proc.devRef .tc main_v44) := by
  unfold WI
  after_reads_simp
  try simp -implicitDefEqProofs only [StableHlo.TRef.toBuf, StableHlo.TRef.ofBuf, cast_cast, cast_eq, id_eq]
  try simp only [WH_main_v44]
  try rfl

theorem WI_main_v55 : WI m c (Proc.devRef .tc main_v55) = WG m c (Proc.devRef .tc main_v55) := by
  unfold WI
  after_reads_simp
  try simp -implicitDefEqProofs only [StableHlo.TRef.toBuf, StableHlo.TRef.ofBuf, cast_cast, cast_eq, id_eq]
  try simp only [WH_main_v55]
  try rfl

theorem WI_main_v71 : WI m c (Proc.devRef .tc main_v71) = hiV bcast_S_S19 slices_S8_S1_7 shapeCasts_S1_S_ (WC m c (Proc.devRef .tc main_v12)) (WH m c (Proc.devRef .tc main_v66)) := by
  unfold WI
  after_reads_simp
  try simp -implicitDefEqProofs only [StableHlo.TRef.toBuf, StableHlo.TRef.ofBuf, cast_cast, cast_eq, id_eq]
  try simp only [WH_main_v12, WH_main_v13]
  try rfl

theorem WJ_main_v19 : WJ m c (Proc.devRef .tc main_v19) = WE m c (Proc.devRef .tc main_v19) := by
  unfold WJ
  after_reads_simp
  try simp -implicitDefEqProofs only [StableHlo.TRef.toBuf, StableHlo.TRef.ofBuf, cast_cast, cast_eq, id_eq]
  try simp only [WI_main_v19]
  try rfl

theorem WJ_main_v44 : WJ m c (Proc.devRef .tc main_v44) = WF m c (Proc.devRef .tc main_v44) := by
  unfold WJ
  after_reads_simp
  try simp -implicitDefEqProofs only [StableHlo.TRef.toBuf, StableHlo.TRef.ofBuf, cast_cast, cast_eq, id_eq]
  try simp only [WI_main_v44]
  try rfl

theorem WJ_main_v55 : WJ m c (Proc.devRef .tc main_v55) = WG m c (Proc.devRef .tc main_v55) := by
  unfold WJ
  after_reads_simp
  try simp -implicitDefEqProofs only [StableHlo.TRef.toBuf, StableHlo.TRef.ofBuf, cast_cast, cast_eq, id_eq]
  try simp only [WI_main_v55]
  try rfl

theorem WJ_main_v71 : WJ m c (Proc.devRef .tc main_v71) = WI m c (Proc.devRef .tc main_v71) := by
  unfold WJ
  after_reads_simp
  try simp -implicitDefEqProofs only [StableHlo.TRef.toBuf, StableHlo.TRef.ofBuf, cast_cast, cast_eq, id_eq]
  try rfl

/-! ## What the tables hold -/

variable {f : ℕ → ℕ} (hf : En f 7 = 6144) (hg : Holds (gsz m c) f)

include hg in
theorem holds_v0 : Holds (WA m c (Proc.devRef .tc main_v0) : IVec S8 32) (En f) := by
  rw [WA_main_v0]
  exact holds_cumsum hg _ rfl _ _

include hg in
theorem holds_v1 : Holds (WB m c (Proc.devRef .tc main_v1) : IVec S8 32) (St f) := by
  rw [WB_main_v1]
  exact holds_sub hg (holds_v0 m c hg)

include hf hg

theorem holds_v11 : Holds (WB m c (Proc.devRef .tc main_v11) : IVec S8 32) (Nt f) := by
  rw [WB_main_v11]
  exact holds_nt hf _ hg (holds_v0 m c hg)

theorem holds_v12 : Holds (WC m c (Proc.devRef .tc main_v12) : IVec S8 32) (Cm f) := by
  rw [WC_main_v12]
  exact holds_cumsum (holds_v11 m c hf hg) _ rfl _ _

theorem holds_v18 : Holds (WD m c (Proc.devRef .tc main_v18) : IVec S19 32) (vc f) := by
  rw [WD_main_v18]
  exact holds_vc hf _ _ _ (holds_v12 m c hf hg)

theorem holds_v19 : Holds (WE m c (Proc.devRef .tc main_v19) : IVec S19 32) (gr f) := by
  rw [WE_main_v19]
  exact holds_gr hf _ _ _ _ _ _ _ (holds_v12 m c hf hg) (holds_v18 m c hf hg)

theorem holds_v44 : Holds (WF m c (Proc.devRef .tc main_v44) : IVec S19 32) (tl f) := by
  rw [WF_main_v44]
  exact holds_tl hf _ _ _ rfl rfl rfl rfl (holds_v1 m c hg) (holds_v11 m c hf hg) (holds_v12 m c hf hg) (holds_v18 m c hf hg) (holds_v19 m c hf hg)

theorem holds_v55 : Holds (WG m c (Proc.devRef .tc main_v55) : IVec S19 32) (lo f) := by
  rw [WG_main_v55]
  exact holds_cut hf _ _ _ rfl rfl rfl rfl (holds_v1 m c hg) (fun j hj => by have := En_le hf j hj; have := En_eq f j; omega) (holds_v19 m c hf hg) (holds_v44 m c hf hg)

theorem holds_v71 : Holds (WI m c (Proc.devRef .tc main_v71) : IVec S19 32) (hi f) := by
  rw [WI_main_v71, WH_main_v66]
  exact holds_hi hf _ _ _ (holds_v12 m c hf hg) (holds_cut hf _ _ _ rfl rfl rfl rfl (holds_v0 m c hg) (fun j hj => En_le hf j hj) (holds_v19 m c hf hg) (holds_v44 m c hf hg))

/-- Table 0 holds the visits' groups. -/
theorem tab_gr : Holds (V m c main_v19 : IVec S19 32) (gr f) := by
  rw [V_eq, WJ_main_v19]; exact holds_v19 m c hf hg

/-- Table 1 holds their tiles. -/
theorem tab_tl : Holds (V m c main_v44 : IVec S19 32) (tl f) := by
  rw [V_eq, WJ_main_v44]; exact holds_v44 m c hf hg

/-- Table 3 holds the first row each covers in its tile. -/
theorem tab_lo : Holds (V m c main_v55 : IVec S19 32) (lo f) := by
  rw [V_eq, WJ_main_v55]; exact holds_v55 m c hf hg

/-- Table 4 holds one past the last. -/
theorem tab_hi : Holds (V m c main_v71 : IVec S19 32) (hi f) := by
  rw [V_eq, WJ_main_v71]; exact holds_v71 m c hf hg

end Cert.KernelIdeal.Hand

end
-- ==== Proof.K.Ideal.RunA.lean ====
/- One run of the kernel's body on any staging memrefs: the block the storing case leaves, written as a function of
   what the body loads, and the two cases of the body (the visit owns rows, or it owns none). -/
module

public import proofs.«01_k».proof.Proof.K.Ideal.Setup
public import Idealize.ShloMosaic.Lib.Pipeline.ValueKit.Basic

@[expose] public section

-- membership in a rectangle of production extents (`View.cover_of_tiled`): the elaborator's structural look
-- recurses once per coordinate of the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The word of a table that the body reads at its grid point. -/
abbrev wordAt (c : Dev nD) (M : Memref sig .tc .smem S19 .i32) (i : grid0.Coords) (xt : TbBuf0 (F := F) c M) : Elt F .i32 :=
  M.view.readAt (Elt F) (Rect.unit (s := S19) (k0_off1 i) S1.size (k0_off1_inb i)).toLoadRect xt (Shape.Idx.first (numel1_S1.symm ▸ Nat.one_pos))

/-- The same word, by the offsets of the later reads. -/
abbrev wordAt' (c : Dev nD) (M : Memref sig .tc .smem S19 .i32) (i : grid0.Coords) (xt : TbBuf0 (F := F) c M) : Elt F .i32 :=
  M.view.readAt (Elt F) (Rect.unit (s := S19) (k0_off3 i) S1.size (k0_off3_inb i)).toLoadRect xt (Shape.Idx.first (numel1_S1.symm ▸ Nat.one_pos))

/-- The scale of weight block `(a, o)` of the step, as the body reads it from the scales' vector. -/
def scW (i : grid0.Coords) (v1 v3 v5 : BitVec 32) (hw : k0_chk1 i v1 v3 v5) (h1 : k0_cond1 v3 v5 = 1#1) (x0 : Vec F S3520 .f32)
    (a : Fin 4) (o : Fin 11) : Elt F .f32 :=
  View.ld x0 (Rect.unit (s := S3520) (k0_off2 i v1 (BitVec.ofNat 32 a.val) (BitVec.ofNat 32 o.val)) S1.size (k0_off2_inb i v1 v3 v5 hw h1 a o))
    (Shape.Idx.first (numel1_S1.symm ▸ Nat.one_pos))

/-- The rectangle of weight block `(a, o)` in the step's block of codes. -/
abbrev rT (a : Fin 4) (o : Fin 11) : Rect S1x512x1408 :=
  Rect.unit (s := S1x512x1408) ![0, 128 * a.val, 128 * o.val] S1x128x128.size (by
    have := a.isLt; have := o.isLt
    intro d; fin_cases d <;> simp [S1x512x1408, S1x128x128] <;> omega)

/-- One dequantised weight block: codes times the block's scale. -/
def tileB (s : Elt F .f32) (w : Vec F S1x128x128 .fp8e4m3) : FVec F S128x128 .bf16 :=
  mulf (extf .bf16 (shapeCast S128x128 w shapeCasts_S1x128x128_S128x128 : FVec F S128x128 .fp8e4m3) bitsLt_fp8e4m3_bf16)
    (truncf .bf16 (broadcast S128x128 s : FVec F S128x128 .f32) bitsLt_bf16_f32)

/-- One row of dequantised weight blocks. -/
def rowB (sc : Fin 4 → Fin 11 → Elt F .f32) (x2 : Vec F S1x512x1408 .fp8e4m3) (a : Fin 4) : FVec F S128x1408 .bf16 :=
  concatenate S128x1408 1 [⟨S128x128, tileB (sc a 0) (View.ld x2 (rT a 0))⟩, ⟨S128x128, tileB (sc a 1) (View.ld x2 (rT a 1))⟩, ⟨S128x128, tileB (sc a 2) (View.ld x2 (rT a 2))⟩, ⟨S128x128, tileB (sc a 3) (View.ld x2 (rT a 3))⟩, ⟨S128x128, tileB (sc a 4) (View.ld x2 (rT a 4))⟩, ⟨S128x128, tileB (sc a 5) (View.ld x2 (rT a 5))⟩, ⟨S128x128, tileB (sc a 6) (View.ld x2 (rT a 6))⟩, ⟨S128x128, tileB (sc a 7) (View.ld x2 (rT a 7))⟩, ⟨S128x128, tileB (sc a 8) (View.ld x2 (rT a 8))⟩, ⟨S128x128, tileB (sc a 9) (View.ld x2 (rT a 9))⟩, ⟨S128x128, tileB (sc a 10) (View.ld x2 (rT a 10))⟩]
    concatenates_S128x128_S128x128_S128x128_S128x128_S128x128_S128x128_S128x128_S128x128_S128x128_S128x128_S128x128_S128x1408_d1

/-- The whole block of activations, as the body loads it. -/
abbrev ldX (x1 : Vec F S512x1408 .bf16) : Vec F S512x1408 .bf16 :=
  View.ld x1 (Rect.unit (s := S512x1408) ![0, 0] S512x1408.size inb_S512x1408_S512x1408_0_0)

/-- The rows' scales. -/
def blkScale (x1 : Vec F S512x1408 .bf16) : FVec F S512x1 .f32 :=
  k0_pay9 (k0_pay4 (ldX x1)) (k0_pay5 (ldX x1)) (k0_pay6 (ldX x1)) k0_pay7

/-- The block of quantised activations. -/
def blkCodes (x1 : Vec F S512x1408 .bf16) : FVec F S512x1408 .bf16 :=
  k0_pay10 (k0_pay3 (ldX x1)) (k0_pay4 (ldX x1)) (k0_pay5 (ldX x1)) (k0_pay6 (ldX x1)) k0_pay7

/-- The output block after a storing visit: the visit's rows from the product, the other rows as they were. -/
def newBlk (x1 : Vec F S512x1408 .bf16) (x2 : Vec F S1x512x1408 .fp8e4m3) (sc : Fin 4 → Fin 11 → Elt F .f32) (lo hi : Elt F .i32)
    (d3 : Vec F S512x512 .bf16) : Vec F S512x512 .bf16 :=
  k0_pay2 (blkScale x1) (blkCodes x1) (rowB sc x2 0) (rowB sc x2 1) (rowB sc x2 2) (rowB sc x2 3) lo hi
    (View.ld d3 (Rect.unit (s := S512x512) ![0, 0] S512x512.size inb_S512x512_S512x512_0_0))

-- (the run's proof term is large: checking it walks past the default budget)
set_option maxHeartbeats 4000000 in
/-- The body when its visit owns rows: the output block becomes the merged block, everything else stays. -/
theorem run_store (c : Dev nD) (i : grid0.Coords) (arg7 : Memref sig .tc .smem S3520 .f32) (harg7 : arg7.IsWhole) (arg8 : Memref sig .tc .vmem S512x1408 .bf16) (harg8 : arg8.IsWhole) (arg9 : Memref sig .tc .vmem S1x512x1408 .fp8e4m3) (harg9 : arg9.IsWhole) (arg10 : Memref sig .tc .vmem S512x512 .bf16) (harg10 : arg10.IsWhole)
    (x0 : Vec F S3520 .f32) (x1 : Vec F S512x1408 .bf16) (x2 : Vec F S1x512x1408 .fp8e4m3) (d3 : Vec F S512x512 .bf16) (xt0 : TbBuf0 (F := F) c tbM0_0) (xt1 : TbBuf0 (F := F) c tbM0_1) (xt2 : TbBuf0 (F := F) c tbM0_2) (xt3 : TbBuf0 (F := F) c tbM0_3) (xt4 : TbBuf0 (F := F) c tbM0_4)
    (hw : k0_chk1 i (wordAt c tbM0_0 i xt0) (wordAt c tbM0_4 i xt4) (wordAt c tbM0_3 i xt3))
    (hcond : k0_cond1 (wordAt c tbM0_4 i xt4) (wordAt c tbM0_3 i xt3) = 1#1) :
      ∀ (E : Set ℕ) (K : PUnit → sProp 𝕄),
        iprop(owns (c : Thread nD τ) arg7 fullShare x0 ∗ owns (c : Thread nD τ) arg8 fullShare x1 ∗ owns (c : Thread nD τ) arg9 fullShare x2 ∗ owns (c : Thread nD τ) arg10 fullShare d3 ∗ tbPt0 c tbM0_0 xt0 ∗ tbPt0 c tbM0_1 xt1 ∗ tbPt0 c tbM0_2 xt2 ∗ tbPt0 c tbM0_3 xt3 ∗ tbPt0 c tbM0_4 xt4
            ∗ (iprop(owns (c : Thread nD τ) arg7 fullShare x0 ∗ owns (c : Thread nD τ) arg8 fullShare x1 ∗ owns (c : Thread nD τ) arg9 fullShare x2 ∗ owns (c : Thread nD τ) arg10 fullShare (newBlk x1 x2 (scW i _ _ _ hw hcond x0) (wordAt' c tbM0_3 i xt3) (wordAt' c tbM0_4 i xt4) d3) ∗ tbPt0 c tbM0_0 xt0 ∗ tbPt0 c tbM0_1 xt1 ∗ tbPt0 c tbM0_2 xt2 ∗ tbPt0 c tbM0_3 xt3 ∗ tbPt0 c tbM0_4 xt4) -∗ K ⟨⟩))
          ⊢ wp frame (wpE (defs₀ (F := F)) Variants.none c none) E (cc0__body i tbM0_0 htbM0_0 tbM0_1 htbM0_1 tbM0_2 htbM0_2 tbM0_3 htbM0_3 tbM0_4 htbM0_4 arg7 harg7 arg8 harg8 arg9 harg9 arg10 harg10) K := by
    intro E K
    simp only [cc0__body_eq_skeleton]; unfold cc0__body_skel
    unfold owns
    iintro ⟨⟨%f0, %hf0, H0⟩, ⟨%f1, %hf1, H1⟩, ⟨%f2, %hf2, H2⟩, ⟨%f3, %hf3, H3⟩, HT0, HT1, HT2, HT3, HT4, Hk⟩
    subst hf0 hf1 hf2 hf3
    sl_exec_parts
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; swap; · iexact H3
      ipureintro
      refine (View.read_writes_eq_canon _ _ _ (View.cover_of_tiled [⟨_, _⟩] S512x512.size (by rfl))).trans ?_
      refine (View.canon_cons_unit_lit _ _ _ (fun a => by fin_cases a <;> rfl)).trans ?_
      rfl
    isplitl [HT0]; · iexact HT0
    isplitl [HT1]; · iexact HT1
    isplitl [HT2]; · iexact HT2
    isplitl [HT3]; · iexact HT3
    iexact HT4

-- (the run's proof term is large: checking it walks past the default budget)
set_option maxHeartbeats 4000000 in
/-- The body when its visit owns no row: everything stays. -/
theorem run_skip (c : Dev nD) (i : grid0.Coords) (arg7 : Memref sig .tc .smem S3520 .f32) (harg7 : arg7.IsWhole) (arg8 : Memref sig .tc .vmem S512x1408 .bf16) (harg8 : arg8.IsWhole) (arg9 : Memref sig .tc .vmem S1x512x1408 .fp8e4m3) (harg9 : arg9.IsWhole) (arg10 : Memref sig .tc .vmem S512x512 .bf16) (harg10 : arg10.IsWhole)
    (x0 : Vec F S3520 .f32) (x1 : Vec F S512x1408 .bf16) (x2 : Vec F S1x512x1408 .fp8e4m3) (d3 : Vec F S512x512 .bf16) (xt0 : TbBuf0 (F := F) c tbM0_0) (xt1 : TbBuf0 (F := F) c tbM0_1) (xt2 : TbBuf0 (F := F) c tbM0_2) (xt3 : TbBuf0 (F := F) c tbM0_3) (xt4 : TbBuf0 (F := F) c tbM0_4)
    (hw : k0_chk1 i (wordAt c tbM0_0 i xt0) (wordAt c tbM0_4 i xt4) (wordAt c tbM0_3 i xt3))
    (hcond : ¬ k0_cond1 (wordAt c tbM0_4 i xt4) (wordAt c tbM0_3 i xt3) = 1#1) :
      ∀ (E : Set ℕ) (K : PUnit → sProp 𝕄),
        iprop(owns (c : Thread nD τ) arg7 fullShare x0 ∗ owns (c : Thread nD τ) arg8 fullShare x1 ∗ owns (c : Thread nD τ) arg9 fullShare x2 ∗ owns (c : Thread nD τ) arg10 fullShare d3 ∗ tbPt0 c tbM0_0 xt0 ∗ tbPt0 c tbM0_1 xt1 ∗ tbPt0 c tbM0_2 xt2 ∗ tbPt0 c tbM0_3 xt3 ∗ tbPt0 c tbM0_4 xt4
            ∗ (iprop(owns (c : Thread nD τ) arg7 fullShare x0 ∗ owns (c : Thread nD τ) arg8 fullShare x1 ∗ owns (c : Thread nD τ) arg9 fullShare x2 ∗ owns (c : Thread nD τ) arg10 fullShare d3 ∗ tbPt0 c tbM0_0 xt0 ∗ tbPt0 c tbM0_1 xt1 ∗ tbPt0 c tbM0_2 xt2 ∗ tbPt0 c tbM0_3 xt3 ∗ tbPt0 c tbM0_4 xt4) -∗ K ⟨⟩))
          ⊢ wp frame (wpE (defs₀ (F := F)) Variants.none c none) E (cc0__body i tbM0_0 htbM0_0 tbM0_1 htbM0_1 tbM0_2 htbM0_2 tbM0_3 htbM0_3 tbM0_4 htbM0_4 arg7 harg7 arg8 harg8 arg9 harg9 arg10 harg10) K := by
    intro E K
    simp only [cc0__body_eq_skeleton]; unfold cc0__body_skel
    unfold owns
    iintro ⟨⟨%f0, %hf0, H0⟩, ⟨%f1, %hf1, H1⟩, ⟨%f2, %hf2, H2⟩, ⟨%f3, %hf3, H3⟩, HT0, HT1, HT2, HT3, HT4, Hk⟩
    subst hf0 hf1 hf2 hf3
    sl_exec_parts
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; swap; · iexact H3
      ipureintro
      rfl
    isplitl [HT0]; · iexact HT0
    isplitl [HT1]; · iexact HT1
    isplitl [HT2]; · iexact HT2
    isplitl [HT3]; · iexact HT3
    iexact HT4

end Cert.KernelIdeal.Hand

end
-- ==== Proof.K.Ideal.Frame.lean ====
/- The frame of the kernel, its output blocks held to a relation: the pipeline's proof data, the obligation of the body at
   every point, the run, and the frame's post. -/
module

public import proofs.«01_k».proof.Proof.K.Ideal.RunA
public import Idealize.ShloMosaic.Lib.Pipeline.DatRel
public import Idealize.ShloMosaic.Lib.Claim

@[expose] public section

-- membership in a rectangle of production extents (`View.cover_of_tiled`): the elaborator's structural look
-- recurses once per coordinate of the long axes
set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output window, of which a relation is stated rather than its contents. -/
def forgets0 : Fin 4 → Bool := fun w => w.val == 3

/-- The proof data of the one pipeline on core `c`: the arrays as the region finds them (`V`); after the body at
    point `t` each input's buffer at its block and the output at `Dat.unnamed`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, h⟩ => Pipeline.Dat.unnamed (cfg := (cfgM m hO)) ⟨3, h⟩ t
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d

/-! ## The body obligation, at a generic point -/

/-- What the checked words satisfy at every point: the body's side condition. -/
def ChkAll (c : Dev nD) : Prop :=
  ∀ i : grid0.Coords, k0_chk1 i (wordAt c tbM0_0 i (tbl m 0)) (wordAt c tbM0_4 i (tbl m 4)) (wordAt c tbM0_3 i (tbl m 3))

/-- The visit's rows are not empty, in the body's words. -/
abbrev CondAt (c : Dev nD) (i : grid0.Coords) : Prop := k0_cond1 (wordAt c tbM0_4 i (tbl m 4)) (wordAt c tbM0_3 i (tbl m 3)) = 1#1

/-- The output block after point `t`'s visit, from the block before it. -/
def outAt (hO : Ok m) (c : Dev nD) (hw : ChkAll m c) (t : Fin (cfgM m hO).N) (d : Vec F S512x512 .bf16) : Vec F S512x512 .bf16 :=
  if h : CondAt m c (grid0.coords t) then
    newBlk (iblk m hO c 1 t) (iblk m hO c 2 t) (scW (grid0.coords t) _ _ _ (hw _) h (iblk m hO c 0 t))
      (wordAt' c tbM0_3 (grid0.coords t) (tbl m 3)) (wordAt' c tbM0_4 (grid0.coords t) (tbl m 4)) d
  else d

/-- The relation each window is held to: `R` at the output, nothing elsewhere. -/
def Rl (hO : Ok m) (R : Fin (cfgM m hO).N → Vec F S512x512 .bf16 → Prop) :
    (w : Fin (cfgM m hO).W) → Fin (cfgM m hO).N → (((cfgM m hO).win w).block.Idx → Elt F ((cfgM m hO).win w).elt) → Prop
  | ⟨0, _⟩ => fun _ _ => True
  | ⟨1, _⟩ => fun _ _ => True
  | ⟨2, _⟩ => fun _ _ => True
  | ⟨3, _⟩ => fun t X => R t X

/-- The proof data with the output held to `R`. -/
abbrev rdat (hO : Ok m) (R : Fin (cfgM m hO).N → Vec F S512x512 .bf16 → Prop) (c : Dev nD) := (dats m hO 0 c).toRRel forgets0 (Rl m hO R)

variable (R : (hO : Ok m) → Dev nD → Fin (cfgM m hO).N → Vec F S512x512 .bf16 → Prop)

/-- What the body is called with at point `t`, the windows one by one, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ Y, ⌜(rdat m hO (R hO c) c).Finds 3 t Y⌝ ∗ owns (c : Thread nD τ) (ms0_3 m hO t) fullShare Y))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ (∃ X, ⌜R hO c t X⌝ ∗ owns (c : Thread nD τ) (ms0_3 m hO t) fullShare X))

/-- The body, in either case, from the block `d` to `outAt`. -/
theorem run_any (hO : Ok m) (c : Dev nD) (hw : ChkAll m c) (t : Fin (cfgM m hO).N) (d : Vec F S512x512 .bf16) (E : Set ℕ) (K : PUnit → sProp 𝕄) :
    iprop(owns (c : Thread nD τ) (ms0_0 m hO t) fullShare (iblk m hO c 0 t) ∗ owns (c : Thread nD τ) (ms0_1 m hO t) fullShare (iblk m hO c 1 t)
        ∗ owns (c : Thread nD τ) (ms0_2 m hO t) fullShare (iblk m hO c 2 t) ∗ owns (c : Thread nD τ) (ms0_3 m hO t) fullShare d
        ∗ tbPt0 c tbM0_0 (tbl m 0) ∗ tbPt0 c tbM0_1 (tbl m 1) ∗ tbPt0 c tbM0_2 (tbl m 2) ∗ tbPt0 c tbM0_3 (tbl m 3) ∗ tbPt0 c tbM0_4 (tbl m 4)
        ∗ (iprop(owns (c : Thread nD τ) (ms0_0 m hO t) fullShare (iblk m hO c 0 t) ∗ owns (c : Thread nD τ) (ms0_1 m hO t) fullShare (iblk m hO c 1 t)
        ∗ owns (c : Thread nD τ) (ms0_2 m hO t) fullShare (iblk m hO c 2 t) ∗ owns (c : Thread nD τ) (ms0_3 m hO t) fullShare (outAt m hO c hw t d)
        ∗ tbPt0 c tbM0_0 (tbl m 0) ∗ tbPt0 c tbM0_1 (tbl m 1) ∗ tbPt0 c tbM0_2 (tbl m 2) ∗ tbPt0 c tbM0_3 (tbl m 3) ∗ tbPt0 c tbM0_4 (tbl m 4)) -∗ K ⟨⟩))
      ⊢ wp frame (wpE (defs₀ (F := F)) Variants.none c none) E (bodyAt0 (adm m hO) t) K := by
  unfold bodyAt0
  by_cases h : CondAt m c (grid0.coords t)
  · rw [show outAt m hO c hw t d = _ from dif_pos h]
    exact run_store c (grid0.coords t) (ms0_0 m hO t) (hs0_0 m hO t) (ms0_1 m hO t) (hs0_1 m hO t) (ms0_2 m hO t) (hs0_2 m hO t) (ms0_3 m hO t) (hs0_3 m hO t) (iblk m hO c 0 t) (iblk m hO c 1 t) (iblk m hO c 2 t) d
      (tbl m 0) (tbl m 1) (tbl m 2) (tbl m 3) (tbl m 4) (hw _) h E K
  · rw [show outAt m hO c hw t d = _ from dif_neg h]
    exact run_skip c (grid0.coords t) (ms0_0 m hO t) (hs0_0 m hO t) (ms0_1 m hO t) (hs0_1 m hO t) (ms0_2 m hO t) (hs0_2 m hO t) (ms0_3 m hO t) (hs0_3 m hO t) (iblk m hO c 0 t) (iblk m hO c 1 t) (iblk m hO c 2 t) d
      (tbl m 0) (tbl m 1) (tbl m 2) (tbl m 3) (tbl m 4) (hw _) h E K

/-- The relation is kept: whatever block the body may find, the block it leaves is related. -/
def Keeps (hO : Ok m) (hw : ∀ c, ChkAll m c) : Prop :=
  ∀ (c : Dev nD) (t : Fin (cfgM m hO).N) (Y : Vec F S512x512 .bf16), (rdat m hO (R hO c) c).Finds 3 t Y → R hO c t (outAt m hO c (hw c) t Y)

/-- The body at any point: the inputs' memrefs hold their blocks, so the run applies; the invariant passes through
    unread; the core owes nothing throughout. -/
theorem sound_body (hO : Ok m) (hw : ∀ c, ChkAll m c) (hR : Keeps m R hO hw) (c : Dev nD) (t : Fin (cfgM m hO).N) :
    bodyPre m R hO c t ⊢ wp frame (wpE (defs₀ (F := F)) Variants.none c none) Set.univ (bodyAt0 (adm m hO) t) (fun _ => bodyPost m R hO c t) := by
  unfold bodyPre bodyPost
  simp only [before0_0, before0_1, before0_2]
  rw [show (dats m hO 0 c).Φ t.succ = (dats m hO 0 c).Φ t.castSucc from rfl,
    show (dats m hO 0 c).owesAt () t.succ = (dats m hO 0 c).owesAt () t.castSucc from rfl,
    after0_0, after0_1, after0_2]
  rw [show (dats m hO 0 c).Φ t.castSucc = iprop(Pipeline.ΦA spec0 c ∗ Pipeline.ΦT pre0 (tbl m) c) from rfl, PhiT0_eq]
  iintro ⟨⟨HΦ, ⟨HT0, HT1, HT2, HT3, HT4⟩⟩, Ho, ⟨%d0, H0⟩, ⟨%d1, H1⟩, ⟨%d2, H2⟩, ⟨%d3, %hd3, H3⟩⟩
  iapply (run_any m hO c (hw c) t d3 Set.univ _)
  isplitl [H0]; · iexact H0
  isplitl [H1]; · iexact H1
  isplitl [H2]; · iexact H2
  isplitl [H3]; · iexact H3
  isplitl [HT0]; · iexact HT0
  isplitl [HT1]; · iexact HT1
  isplitl [HT2]; · iexact HT2
  isplitl [HT3]; · iexact HT3
  isplitl [HT4]; · iexact HT4
  iintro ⟨H0, H1, H2, H3, HT0, HT1, HT2, HT3, HT4⟩
  isplitl [HΦ HT0 HT1 HT2 HT3 HT4]
  · isplitl [HΦ]
    · iexact HΦ
    isplitl [HT0]; · iexact HT0
    isplitl [HT1]; · iexact HT1
    isplitl [HT2]; · iexact HT2
    isplitl [HT3]; · iexact HT3
    iexact HT4
  isplitl [Ho]; · iexact Ho
  isplitl [H0]; · iexact H0
  isplitl [H1]; · iexact H1
  isplitl [H2]; · iexact H2
  iexists _; isplitr; swap; · iexact H3
  ipureintro; exact hR c t d3 hd3

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated. -/
theorem body_obligation (hO : Ok m) (hw : ∀ c, ChkAll m c) (hR : Keeps m R hO hw) (c : Dev nD) :
    Pipeline.BodyObligationRel (dats (F := F) m hO 0 c) (defs₀ (F := F)) Variants.none () Set.univ forgets0 (Rl m hO (R hO c)) := fun t => by
  rw [bigSep_W0, bigSep_W0, defs₀_row m hO]
  exact triple_restated (sound_body m R hO hw hR c t) rfl .rfl fun _ => .rfl

/-! ## The run and the frame -/

-- the launch theorem's implicit arguments are found by unifying its conclusion with this one, which takes unfolding plain
-- definitions in a metavariable's type
set_option backward.isDefEq.respectTransparency.types false in
/-- The launch: the output's array as the relation has it, and every semaphore counter of the machine at zero at every final state. -/
theorem run_main_quiescent (hO : Ok m) (hw : ∀ c, ChkAll m c) (hR : Keeps m R hO hw) : θ_run defs (onTc (τ := τ) (main (F := F))) (s₀ m ρ) (fun r => (Pipeline.RDat.FramePost ((Pipeline.pin pcfgs fun _ => adm m hO) 0) (fun c => rdat m hO (R hO c) c) (V m)) r ∧ r.2.sem = fun _ => 0) :=
  Pipeline.RDat.θ_run_frameP (Q' := _) pcfgs (fun _ => adm m hO) (0 : Fin 1) launch0 defs₀ Variants.none (fun c => rdat m hO (R hO c) c) m ρ main
    (hbody := fun c => (body_obligation m R hO hw hR c).toRRel) (hshare := fun c => (dats m hO 0 c).share_full fun _ => rfl)
    (howed := fun _ _ => rfl) (V := V m) (hmain := hmain m Variants.none) (hA := A_eq m hO) (hpf := V_pre m) (hΦ := fun _ _ => rfl)

/-- The launch without the counters. -/
theorem run_main (hO : Ok m) (hw : ∀ c, ChkAll m c) (hR : Keeps m R hO hw) : θ_run defs (onTc (τ := τ) (main (F := F))) (s₀ m ρ) (Pipeline.RDat.FramePost ((Pipeline.pin pcfgs fun _ => adm m hO) 0) (fun c => rdat m hO (R hO c) c) (V m)) :=
  (θ_run defs _ _).mono (fun _ h => h.1) (run_main_quiescent m ρ R hO hw hR)

/-- The argument arrays end unchanged. -/
theorem unchanged (hO : Ok m) (hw : ∀ c, ChkAll m c) (hR : Keeps m R hO hw) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ hO (fun c => rdat m hO (R hO c) c) (A_eq m hO) (run_main m ρ R hO hw hR)

/-- The frame: the argument arrays end unchanged and the counters end at zero. -/
theorem frame (hO : Ok m) (hw : ∀ c, ChkAll m c) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  have hR : Keeps m (fun _ _ _ _ => True) hO hw := fun _ _ _ _ => trivial
  θ_run_and (unchanged m ρ _ hO hw hR) ((θ_run defs _ _).mono (fun _ h => h.2) (run_main_quiescent m ρ _ hO hw hR))

end Cert.KernelIdeal.Hand

end
-- ==== Proof.K.Ideal.Tables.lean ====
/- The tables' words where the group sizes are naturals that add up to the rows: what the body and the index maps read at a grid point, so
   that every block is inside its array (`Ok`) and every scale the body reads is inside the scales' vector (`ChkAll`). -/
module

public import proofs.«01_k».proof.Proof.K.Ideal.Prefix
public import proofs.«01_k».proof.Proof.K.Ideal.Frame

@[expose] public section

noncomputable section

namespace Cert.KernelIdeal.Hand

open Cert.KernelIdeal.Gen Cert.Sched
open Idealize.ShloMosaic Idealize.ShloMosaic.TcCoe Idealize.ShloMosaic.StableHlo
open Idealize.ShloMosaic.ValueIdx

variable {F : FTy → Type} [FloatOps F]
variable (m : (ℓ : Loc nD τ sig) → Buf (Elt F) ℓ)

/-- The visit of a grid point. -/
abbrev vis (i : grid0.Coords) : Fin 19 := i 1

theorem off1_val (i : grid0.Coords) : k0_off1 i = ![(vis i).val] := by
  have h : (vis i).val < 19 := (vis i).isLt
  funext a
  match a with
  | ⟨0, _⟩ =>
    show (BitVec.ofNat 32 (vis i).val).toNat = (vis i).val
    rw [BitVec.toNat_ofNat, Nat.mod_eq_of_lt (by omega)]

theorem off3_val (i : grid0.Coords) : k0_off3 i = ![(vis i).val] := off1_val i

theorem idx_at (i : grid0.Coords) (off : Fin 1 → Nat) (h : ∀ a, off a + S1.size a ≤ S19.size a) (e : off = ![(vis i).val])
    (hn : 0 < (Rect.unit (s := S19) off S1.size h).shape.numel) :
    (Rect.unit (s := S19) off S1.size h).emb (Shape.Idx.first hn) = ix1 (vis i) := by
  subst e
  funext a
  match a with
  | ⟨0, _⟩ => exact Fin.ext (by
      rw [Rect.emb_apply]
      rfl)

theorem word_eq (c : Dev nD) (M : Memref sig .tc .smem S19 .i32) (i : grid0.Coords) (xt : TbBuf0 (F := F) c M) :
    wordAt c M i xt = M.view.read (Elt F) xt (ix1 (vis i)) := by
  rw [← idx_at i _ (k0_off1_inb i) (off1_val i) (show 0 < S1.numel by decide)]
  rfl

theorem word_eq' (c : Dev nD) (M : Memref sig .tc .smem S19 .i32) (i : grid0.Coords) (xt : TbBuf0 (F := F) c M) :
    wordAt' c M i xt = M.view.read (Elt F) xt (ix1 (vis i)) := by
  rw [← idx_at i _ (k0_off3_inb i) (off3_val i) (show 0 < S1.numel by decide)]
  rfl

variable {f : ℕ → ℕ} (hf : En f 7 = 6144) (hg : ∀ c, Holds (gsz m c) f)

include hf hg

theorem w_gr (c : Dev nD) (i : grid0.Coords) : wordAt c tbM0_0 i (tbl m 0) = BitVec.ofNat 32 (gr f (vis i)) :=
  (word_eq c tbM0_0 i (tbl m 0)).trans (tab_gr m 0 hf (hg 0) (vis i))

theorem w_lo (c : Dev nD) (i : grid0.Coords) : wordAt c tbM0_3 i (tbl m 3) = BitVec.ofNat 32 (lo f (vis i)) :=
  (word_eq c tbM0_3 i (tbl m 3)).trans (tab_lo m 0 hf (hg 0) (vis i))

theorem w_hi (c : Dev nD) (i : grid0.Coords) : wordAt c tbM0_4 i (tbl m 4) = BitVec.ofNat 32 (hi f (vis i)) :=
  (word_eq c tbM0_4 i (tbl m 4)).trans (tab_hi m 0 hf (hg 0) (vis i))

theorem w_lo' (c : Dev nD) (i : grid0.Coords) : wordAt' c tbM0_3 i (tbl m 3) = BitVec.ofNat 32 (lo f (vis i)) :=
  (word_eq' c tbM0_3 i (tbl m 3)).trans (tab_lo m 0 hf (hg 0) (vis i))

theorem w_hi' (c : Dev nD) (i : grid0.Coords) : wordAt' c tbM0_4 i (tbl m 4) = BitVec.ofNat 32 (hi f (vis i)) :=
  (word_eq' c tbM0_4 i (tbl m 4)).trans (tab_hi m 0 hf (hg 0) (vis i))

theorem m_gr (i : grid0.Coords) :
    (tbl m 0 ((Rect.unit (s := S19) (k0_off1 i) S1.size (k0_off1_inb i)).emb (Shape.Idx.first (numel1_S1.symm ▸ Nat.one_pos))) : BitVec 32)
      = BitVec.ofNat 32 (gr f (vis i)) :=
  (congrArg (fun j : S19.Idx => (tbl m 0 j : BitVec 32)) (idx_at i _ (k0_off1_inb i) (off1_val i) (show 0 < S1.numel by decide))).trans (tab_gr m 0 hf (hg 0) (vis i))

theorem m_tl (i : grid0.Coords) :
    (tbl m 1 ((Rect.unit (s := S19) (k0_off1 i) S1.size (k0_off1_inb i)).emb (Shape.Idx.first (numel1_S1.symm ▸ Nat.one_pos))) : BitVec 32)
      = BitVec.ofNat 32 (tl f (vis i)) :=
  (congrArg (fun j : S19.Idx => (tbl m 1 j : BitVec 32)) (idx_at i _ (k0_off1_inb i) (off1_val i) (show 0 < S1.numel by decide))).trans (tab_tl m 0 hf (hg 0) (vis i))

theorem map_1 (i : grid0.Coords) : cc0_transform_1 k0_off1_inb numel1_S1 (tbl m) i = ![tl f (vis i), 0] := by
  have h := tl_le hf (vis i).val
  refine (congrArg (fun w : BitVec 32 => (![w.toNat, 0] : Fin 2 → ℕ)) (m_tl m hf hg i)).trans ?_
  rw [BitVec.toNat_ofNat, Nat.mod_eq_of_lt (by omega)]

theorem map_2 (i : grid0.Coords) : cc0_transform_2 k0_off1_inb numel1_S1 (tbl m) i = ![gr f (vis i), (i 0).val, 0] := by
  have h := (gr_spec hf (vis i).val).1
  have h0 : (i 0).val < 10 := (i 0).isLt
  refine (congrArg (fun w : BitVec 32 => (![w.toNat, (BitVec.ofNat 32 (i 0).val).toNat, 0] : Fin 3 → ℕ)) (m_gr m hf hg i)).trans ?_
  rw [BitVec.toNat_ofNat, BitVec.toNat_ofNat, Nat.mod_eq_of_lt (by omega), Nat.mod_eq_of_lt (by omega)]

theorem map_3 (i : grid0.Coords) : cc0_transform_3 k0_off1_inb numel1_S1 (tbl m) i = ![tl f (vis i), (i 0).val] := by
  have h := tl_le hf (vis i).val
  have h0 : (i 0).val < 10 := (i 0).isLt
  refine (congrArg (fun w : BitVec 32 => (![w.toNat, (BitVec.ofNat 32 (i 0).val).toNat] : Fin 2 → ℕ)) (m_tl m hf hg i)).trans ?_
  rw [BitVec.toNat_ofNat, BitVec.toNat_ofNat, Nat.mod_eq_of_lt (by omega), Nat.mod_eq_of_lt (by omega)]

/-- Every block is inside its array, and its transfer is whole words. -/
theorem ok : Ok m := by
  refine ⟨fun i => ?_, fun i => ?_, fun i => ?_⟩
  · rw [map_1 m hf hg i]
    have h := tl_le hf (vis i).val
    refine ⟨fun a => ?_, Or.inr (Or.inl (Or.inr ⟨Nat.le_refl 2, rfl, Or.inl ⟨?_, ⟨256, rfl⟩⟩⟩))⟩
    · match a with
      | ⟨0, _⟩ => show (tl f (vis i) + 1) * 512 ≤ 6144; omega
      | ⟨1, _⟩ => show (0 + 1) * 1408 ≤ 1408; omega
    · show 2 ∣ tl f (vis i) * 512
      omega
  · rw [map_2 m hf hg i]
    have h := (gr_spec hf (vis i).val).1
    have h0 : (i 0).val < 10 := (i 0).isLt
    refine ⟨fun a => ?_, Or.inr (Or.inl (Or.inr ⟨Nat.le_succ 2, rfl, Or.inl ⟨?_, ⟨128, rfl⟩⟩⟩))⟩
    · match a with
      | ⟨0, _⟩ => show (gr f (vis i) + 1) * 1 ≤ 8; omega
      | ⟨1, _⟩ => show ((i 0).val + 1) * 512 ≤ 5120; omega
      | ⟨2, _⟩ => show (0 + 1) * 1408 ≤ 1408; omega
    · show 4 ∣ (i 0).val * 512
      omega
  · rw [map_3 m hf hg i]
    have h := tl_le hf (vis i).val
    have h0 : (i 0).val < 10 := (i 0).isLt
    refine ⟨fun a => ?_, Or.inr (Or.inl (Or.inr ⟨Nat.le_refl 2, rfl, Or.inl ⟨?_, ⟨256, rfl⟩⟩⟩))⟩
    · match a with
      | ⟨0, _⟩ => show (tl f (vis i) + 1) * 512 ≤ 6144; omega
      | ⟨1, _⟩ => show ((i 0).val + 1) * 512 ≤ 5120; omega
    · show 2 ∣ tl f (vis i) * 512
      omega

omit hg hf in
/-- Where the scale of weight block `(r₁, r₂)` of a grid point lies. -/
theorem off2_val (i : grid0.Coords) {g : ℕ} (hg8 : g < 8) (r₁ : Fin 4) (r₂ : Fin 11) :
    k0_off2 i (BitVec.ofNat 32 g) (BitVec.ofNat 32 r₁.val) (BitVec.ofNat 32 r₂.val)
      = ![(g * 40 + (i 0).val * 4 + r₁.val) * 11 + r₂.val] := by
  have h0 : (i 0).val < 10 := (i 0).isLt
  have h1 := r₁.isLt
  have h2 := r₂.isLt
  unfold k0_off2
  dsimp only
  simp only [Scalar.muli, Scalar.addi, WordCmp.muli_ofNat, WordCmp.addi_ofNat]
  funext a
  match a with
  | ⟨0, _⟩ =>
    show (BitVec.ofNat 32 ((g * 40 + (i 0).val * 4 + r₁.val) * 11 + r₂.val)).toNat = _
    rw [BitVec.toNat_ofNat, Nat.mod_eq_of_lt (by omega)]
    rfl

/-- Every scale the body reads is inside the scales' vector. -/
theorem chk (c : Dev nD) : ChkAll m c := fun i => by
  rw [w_gr m hf hg c i]
  intro _ r₁ r₂ a
  have h0 : (i 0).val < 10 := (i 0).isLt
  have h1 := r₁.isLt
  have h2 := r₂.isLt
  have h := (gr_spec hf (vis i).val).1
  rw [off2_val i h r₁ r₂]
  match a with
  | ⟨0, _⟩ =>
    show (gr f (vis i) * 40 + (i 0).val * 4 + r₁.val) * 11 + r₂.val + 1 ≤ 3520
    omega

end Cert.KernelIdeal.Hand

end
-- ==== Proof.K.Pre.lean ====
/- The group sizes of a memory the preconditions hold of. -/
module

public import proofs.«01_k».proof.Defs
public import proofs.«01_k».proof.Proof.K.Sizes
public import proofs.«01_k».proof.Proof.K.Bits.Tables
public import proofs.«01_k».proof.Proof.K.Ideal.Tables

@[expose] public section

namespace Cert

open Idealize.ShloMosaic Cert.Sched

theorem sizes_Kernel [h : Cert.Pre_groups_fit.Facts] (m : (ℓ : Loc Kernel.nD Kernel.τ Kernel.sig) → Buf (Elt Bits) ℓ) (hp : Pre_Kernel m) :
    ∃ f : ℕ → ℕ, En f 7 = 6144 ∧ ∀ c, Holds (Kernel.Hand.gsz m c) f := by
  obtain ⟨f, hf, hg⟩ := exists_sizes h.bcast_S_S8 h.reducesTo_S8_S_d0 h.h_S_ (Kernel.Hand.gsz m 0) (hp 0).1 (hp 0).2
  exact ⟨f, hf, fun c => by rw [Subsingleton.elim c 0]; exact hg⟩

theorem sizes_KernelIdeal [h : Cert.Pre_groups_fit.Facts] (m : (ℓ : Loc KernelIdeal.nD KernelIdeal.τ KernelIdeal.sig) → Buf (Elt Ideal) ℓ)
    (hp : Pre_KernelIdeal m) : ∃ f : ℕ → ℕ, En f 7 = 6144 ∧ ∀ c, Holds (KernelIdeal.Hand.gsz m c) f := by
  obtain ⟨f, hf, hg⟩ := exists_sizes h.bcast_S_S8 h.reducesTo_S8_S_d0 h.h_S_ (KernelIdeal.Hand.gsz m 0) (hp 0).1 (hp 0).2
  exact ⟨f, hf, fun c => by rw [Subsingleton.elim c 0]; exact hg⟩

theorem sizes_KernelIdeal_finite [h : Cert.Pre_groups_fit_finite.Facts]
    (m : (ℓ : Loc KernelIdeal.nD KernelIdeal.τ KernelIdeal.sig) → Buf (Elt Ideal) ℓ)
    (hp : Pre_KernelIdeal_groups_fit_finite m) : ∃ f : ℕ → ℕ, En f 7 = 6144 ∧ ∀ c, Holds (KernelIdeal.Hand.gsz m c) f := by
  obtain ⟨f, hf, hg⟩ := exists_sizes h.bcast_S_S8 h.reducesTo_S8_S_d0 h.h_S_ (KernelIdeal.Hand.gsz m 0) (hp 0).1 (hp 0).2.1
  exact ⟨f, hf, fun c => by rw [Subsingleton.elim c 0]; exact hg⟩

end Cert
-- ==== Proof.K.Scale.lean ====
/- A row's scale, over the extended reals: the exponent field found by comparing with the powers of two, and the least power of two above
   a number. The two agree, and the power by the field's complement is the reciprocal. -/
module

public import Idealize.ShloMosaic.Lib.IdealHost

@[expose] public section

noncomputable section

namespace Cert.Scale

open Idealize.ShloMosaic

/-- The number whose bits are the exponent field `n` alone. -/
def T (n : ℕ) : EReal := Ideal.ofBits .f32 (BitVec.ofNat 32 (n * 2 ^ 23))

theorem T_zero : T 0 = 0 := by
  unfold T
  rw [show BitVec.ofNat 32 (0 * 2 ^ 23) = 0x00000000#32 from rfl]
  simp [Ideal.ofBits, Ideal.ieee]

theorem T_top : T 255 = ⊤ := by
  unfold T
  rw [show BitVec.ofNat 32 (255 * 2 ^ 23) = 0x7F800000#32 from rfl]
  simp [Ideal.ofBits, Ideal.ieee]

theorem T_eq (n : ℕ) (h0 : 0 < n) (h : n < 255) : T n = (((2 : ℝ) ^ ((n : ℤ) - 127) : ℝ) : EReal) := by
  have hb : (BitVec.ofNat 32 (n * 2 ^ 23)).toNat = n * 2 ^ 23 := by
    rw [BitVec.toNat_ofNat, Nat.mod_eq_of_lt (by omega)]
  have e1 : (BitVec.ofNat 32 (n * 2 ^ 23)).extractLsb' (8 + 23) 1 = 0#1 := by
    apply BitVec.eq_of_toNat_eq
    rw [BitVec.extractLsb'_toNat, hb, Nat.shiftRight_eq_div_pow]
    show n * 2 ^ 23 / 2 ^ (8 + 23) % 2 ^ 1 = 0
    omega
  have e2 : ((BitVec.ofNat 32 (n * 2 ^ 23)).extractLsb' 23 8).toNat = n := by
    rw [BitVec.extractLsb'_toNat, hb, Nat.shiftRight_eq_div_pow]
    omega
  have e3 : ((BitVec.ofNat 32 (n * 2 ^ 23)).extractLsb' 0 23).toNat = 0 := by
    rw [BitVec.extractLsb'_toNat, hb, Nat.shiftRight_eq_div_pow]
    omega
  unfold T
  show Ideal.ieee 8 23 (BitVec.ofNat 32 (n * 2 ^ 23)) = _
  unfold Ideal.ieee
  simp only [e1, e2, e3]
  rw [if_neg (by omega), if_neg (by omega)]
  congr 1
  simp only [show ((0#1 : BitVec 1) == 1#1) = false from rfl, Bool.false_eq_true, if_false]
  rw [show ((n : ℤ) - (2 ^ (8 - 1) - 1) - (23 : ℕ) : ℤ) = ((n : ℤ) - 127) - 23 by norm_num, zpow_sub₀ (by norm_num : (2 : ℝ) ≠ 0)]
  norm_num
  field_simp

theorem T_lt {a b : ℕ} (h : a < b) (hb : b < 256) : T a < T b := by
  have hlt : ∀ n, n < 255 → T n ≠ ⊤ := fun n hn => by
    rcases Nat.eq_zero_or_pos n with rfl | h0
    · rw [T_zero]; exact EReal.zero_ne_top
    · rw [T_eq n h0 hn]; exact EReal.coe_ne_top _
  rcases Nat.lt_or_ge b 255 with hb5 | hb5
  · rw [T_eq b (by omega) hb5]
    rcases Nat.eq_zero_or_pos a with rfl | h0
    · rw [T_zero]
      exact EReal.coe_pos.2 (by positivity)
    · rw [T_eq a h0 (by omega), EReal.coe_lt_coe_iff]
      exact zpow_lt_zpow_right₀ (by norm_num) (by omega)
  · obtain rfl : b = 255 := by omega
    rw [T_top]
    exact lt_top_iff_ne_top.2 (hlt a h)

theorem T_le {a b : ℕ} (h : a ≤ b) (hb : b < 256) : T a ≤ T b := by
  rcases Nat.eq_or_lt_of_le h with rfl | h
  · exact le_rfl
  · exact (T_lt h hb).le

/-- One step of the search for the exponent field. -/
def stepN (p : EReal) (w b : ℕ) : ℕ := if T (w + b) ≤ p then w + b else w

/-- The search: the greatest exponent field whose number is at most `p`. -/
def fieldN (p : EReal) : ℕ :=
  stepN p (stepN p (stepN p (stepN p (stepN p (stepN p (stepN p (stepN p 0 128) 64) 32) 16) 8) 4) 2) 1

/-- What holds of the field found so far when steps below `s` are left. -/
def Inv (p : EReal) (w s : ℕ) : Prop := (w = 0 ∨ T w ≤ p) ∧ (w + s < 256 → p < T (w + s)) ∧ w + s ≤ 256

theorem Inv.step {p : EReal} {w b : ℕ} (hp : p < ⊤) (hb : 0 < b) (h : Inv p w (b + b)) : Inv p (stepN p w b) b := by
  obtain ⟨h1, h2, h3⟩ := h
  unfold stepN
  split_ifs with hc
  · refine ⟨Or.inr hc, ?_, by omega⟩
    rw [Nat.add_assoc]
    exact h2
  · exact ⟨h1, fun _ => not_le.1 hc, by omega⟩

theorem fieldN_inv {p : EReal} (hp : p < ⊤) : Inv p (fieldN p) 1 := by
  have h0 : Inv p 0 (128 + 128) := ⟨Or.inl rfl, fun h => absurd h (by decide), by decide⟩
  have h1 := h0.step hp (by decide)
  have h2 := Inv.step (b := 64) hp (by decide) h1
  have h3 := Inv.step (b := 32) hp (by decide) h2
  have h4 := Inv.step (b := 16) hp (by decide) h3
  have h5 := Inv.step (b := 8) hp (by decide) h4
  have h6 := Inv.step (b := 4) hp (by decide) h5
  have h7 := Inv.step (b := 2) hp (by decide) h6
  exact Inv.step (b := 1) hp (by decide) h7

/-- The factor from a row's greatest magnitude to its scale. -/
def cP : EReal := Ideal.ofBits .f32 0x37924925#32

theorem cP_eq : cP = (((9586981 : ℝ) * 2 ^ (-39 : ℤ) : ℝ) : EReal) := by
  unfold cP
  simp [Ideal.ofBits, Ideal.ieee, -EReal.coe_mul]

/-- The field of a finite row is small: neither the power nor its reciprocal leaves the range. -/
theorem field_lt {p : EReal} (hp : p < T 253) : fieldN p < 253 ∧ (fieldN p = 0 ∨ T (fieldN p) ≤ p) ∧ p < T (fieldN p + 1) := by
  have ht : p < ⊤ := lt_of_lt_of_le hp le_top
  obtain ⟨h1, h2, h3⟩ := fieldN_inv ht
  have hlt : fieldN p < 253 := by
    rcases h1 with h | h
    · omega
    · by_contra hc
      exact absurd (lt_of_le_of_lt h hp) (not_lt.2 (T_le (by omega) (by omega)))
  exact ⟨hlt, h1, h2 (by omega)⟩

/-- The least power of two above `p`. -/
def above (p : EReal) : EReal := (Finset.univ : Finset (Fin 254)).fold min ⊤ fun j => if p < T (j.val + 1) then T (j.val + 1) else ⊤

theorem above_eq {p : EReal} (hp : p < T 253) : above p = T (fieldN p + 1) := by
  obtain ⟨h1, h2, h3⟩ := field_lt hp
  apply le_antisymm
  · refine (Finset.fold_min_le _).2 (Or.inr ⟨⟨fieldN p, by omega⟩, Finset.mem_univ _, ?_⟩)
    dsimp only
    rw [if_pos h3]
  · refine (Finset.le_fold_min _).2 ⟨le_top, fun j _ => ?_⟩
    split_ifs with hj
    · refine T_le ?_ (by omega)
      rcases h2 with h | h
      · omega
      · by_contra hc
        exact absurd (lt_of_le_of_lt h hj) (not_lt.2 (T_le (by omega) (by omega)))
    · exact le_top

/-- The scale of a row of greatest magnitude `a`, as the kernel has it, -/
def kScale (a : EReal) : EReal := if a = 0 then T 127 else T (fieldN (a * cP) + 1)
/-- its reciprocal, as the kernel has it, -/
def kInv (a : EReal) : EReal := if a = 0 then T 127 else T (253 - fieldN (a * cP))
/-- and the scale as the reference has it. -/
def rScale (a : EReal) : EReal := if a = 0 then 1 else above (a * cP)

theorem T_one : T 127 = 1 := by
  rw [T_eq 127 (by decide) (by decide)]; norm_num

theorem scale_eq {a : EReal} (h : a * cP < T 253) : kScale a = rScale a := by
  unfold kScale rScale
  split_ifs with h0
  · exact T_one
  · exact (above_eq h).symm

theorem div_pow (k : ℤ) : Ideal.div 1 (((2 : ℝ) ^ k : ℝ) : EReal) = (((2 : ℝ) ^ (-k) : ℝ) : EReal) := by
  have h : (((2 : ℝ) ^ k : ℝ) : EReal) ≠ 0 := by
    rw [← EReal.coe_zero]
    exact fun e => absurd (EReal.coe_injective e) (by positivity)
  unfold Ideal.div
  rw [if_neg h, one_mul, ← EReal.coe_inv, ← zpow_neg]

theorem div_one : Ideal.div 1 1 = 1 := by
  have := div_pow 0
  simpa using this

theorem inv_T {w : ℕ} (h : w < 253) : T (253 - w) = Ideal.div 1 (T (w + 1)) := by
  rw [T_eq (w + 1) (by omega) (by omega), T_eq (253 - w) (by omega) (by omega), div_pow]
  have e : ((253 - w : ℕ) : ℤ) - 127 = -(((w + 1 : ℕ) : ℤ) - 127) := by omega
  rw [e]

theorem inv_eq {a : EReal} (h : a * cP < T 253) : kInv a = Ideal.div 1 (rScale a) := by
  unfold kInv rScale
  split_ifs with h0
  · rw [T_one, div_one]
  · rw [above_eq h]
    exact inv_T (field_lt h).1

/-- The greatest finite bf16 number. -/
theorem bf16max_eq : Ideal.ofBits .bf16 0x7F7F#16 = (((255 : ℝ) * 2 ^ (120 : ℤ) : ℝ) : EReal) := by
  simp [Ideal.ofBits, Ideal.ieee, -EReal.coe_mul]

theorem fits {a : EReal} (h0 : 0 ≤ a) (h : a ≤ Ideal.ofBits .bf16 0x7F7F#16) : a * cP < T 253 := by
  rw [bf16max_eq] at h
  lift a to ℝ using ⟨ne_top_of_le_ne_top (EReal.coe_ne_top _) h, ne_bot_of_le_ne_bot (by simp) h0⟩
  rw [EReal.coe_le_coe_iff] at h
  rw [cP_eq, T_eq 253 (by decide) (by decide), ← EReal.coe_mul, EReal.coe_lt_coe_iff]
  calc a * (9586981 * 2 ^ (-39 : ℤ)) ≤ (255 * 2 ^ (120 : ℤ)) * (9586981 * 2 ^ (-39 : ℤ)) := by gcongr
    _ < _ := by norm_num

/-- A row's greatest magnitude. -/
def amax (f : Fin 1408 → EReal) : EReal := (Finset.univ : Finset (Fin 1408)).fold max ⊥ fun k => max (f k) (-(f k))

theorem negInf_eq : Ideal.ofBits .f32 0xFF800000#32 = ⊥ := by
  simp [Ideal.ofBits, Ideal.ieee]

theorem posInf_eq : Ideal.ofBits .f32 0x7F800000#32 = ⊤ := by
  simp [Ideal.ofBits, Ideal.ieee]

/-- A row of finite entries has a scale in range. -/
theorem amax_fits {f : Fin 1408 → EReal} (h : ∀ k, max (f k) (-(f k)) ≤ Ideal.ofBits .bf16 0x7F7F#16) : amax f * cP < T 253 := by
  refine fits ?_ ?_
  · refine (Finset.le_fold_max _).2 (Or.inr ⟨0, Finset.mem_univ _, ?_⟩)
    rcases le_total 0 (f 0) with h0 | h0
    · exact le_max_of_le_left h0
    · exact le_max_of_le_right (EReal.neg_nonneg.2 h0)
  · exact (Finset.fold_max_le _).2 ⟨bot_le, fun k _ => h k⟩

/-- The clipping of the quantiser. -/
def clip (v : EReal) : EReal := min (Ideal.ofBits .f32 0x47600000#32) (max (Ideal.ofBits .f32 0xC7600000#32) v)

/-! ## The search in words -/

/-- One step of the search, in words. -/
def stepW (p : EReal) (w b : BitVec 32) : BitVec 32 :=
  Scalar.select (FloatOps.cmpf (F := Ideal) (φ := .f32) .oge p (FloatOps.ofBits .f32 (IntOp.shli .vector (IntOp.addi w b) 23#32)))
    (IntOp.addi w b) w

theorem shl_eq (n : ℕ) : IntOp.shli .vector (BitVec.ofNat 32 n) 23#32 = BitVec.ofNat 32 (n * 2 ^ 23) := by
  unfold IntOp.shli
  rw [if_pos (by decide)]
  apply BitVec.eq_of_toNat_eq
  simp [Nat.shiftLeft_eq]

theorem pow_eq (n : ℕ) : (FloatOps.ofBits (F := Ideal) .f32 (IntOp.shli .vector (BitVec.ofNat 32 n) 23#32) : EReal) = T n := by
  rw [shl_eq]; rfl

theorem add_eq (w b : ℕ) : IntOp.addi (BitVec.ofNat 32 w) (BitVec.ofNat 32 b) = BitVec.ofNat 32 (w + b) :=
  (BitVec.ofNat_add ..).symm

theorem stepW_eq (p : EReal) (w b : ℕ) : stepW p (BitVec.ofNat 32 w) (BitVec.ofNat 32 b) = BitVec.ofNat 32 (stepN p w b) := by
  unfold stepW stepN
  rw [add_eq, pow_eq]
  show Scalar.select (BitVec.ofBool (decide (T (w + b) ≤ p))) _ _ = _
  unfold Scalar.select
  by_cases h : T (w + b) ≤ p
  · rw [if_pos h, decide_eq_true h]; rfl
  · rw [if_neg h, decide_eq_false h]; rfl

/-- The biased exponent less 126, or zero for a row of zeros, in words. -/
def expW (a : EReal) : BitVec 32 :=
  Scalar.select (FloatOps.cmpf (F := Ideal) (φ := .f32) .oeq a (FloatOps.ofBits .f32 0x00000000#32)) 0#32
    (IntOp.subi (stepW (a * cP) (stepW (a * cP) (stepW (a * cP) (stepW (a * cP) (stepW (a * cP) (stepW (a * cP) (stepW (a * cP) (stepW (a * cP)
      0#32 128#32) 64#32) 32#32) 16#32) 8#32) 4#32) 2#32) 1#32) 126#32)

theorem expW_eq (a : EReal) : expW a = if a = 0 then 0#32 else BitVec.ofNat 32 (fieldN (a * cP)) - 126#32 := by
  unfold expW
  have hs : (stepW (a * cP) (stepW (a * cP) (stepW (a * cP) (stepW (a * cP) (stepW (a * cP) (stepW (a * cP) (stepW (a * cP) (stepW (a * cP)
      0#32 128#32) 64#32) 32#32) 16#32) 8#32) 4#32) 2#32) 1#32) = BitVec.ofNat 32 (fieldN (a * cP)) := by
    unfold fieldN
    simp only [← stepW_eq]
  rw [hs]
  show Scalar.select (BitVec.ofBool (decide (a = Ideal.ofBits .f32 0x00000000#32))) _ _ = _
  rw [Ideal.ofBits_zero_f32]
  unfold Scalar.select
  by_cases h : a = 0
  · rw [if_pos h, decide_eq_true h]; rfl
  · rw [if_neg h, decide_eq_false h]; rfl

theorem scaleW {a : EReal} (h : a * cP < T 253) :
    (FloatOps.ofBits (F := Ideal) .f32 (IntOp.shli .vector (IntOp.addi (expW a) 127#32) 23#32) : EReal) = kScale a := by
  rw [expW_eq]
  unfold kScale
  split_ifs with h0
  · rw [show IntOp.addi (0#32) (127#32) = BitVec.ofNat 32 127 from rfl, pow_eq]
  · have := (field_lt h).1
    rw [show IntOp.addi (BitVec.ofNat 32 (fieldN (a * cP)) - 126#32) (127#32) = BitVec.ofNat 32 (fieldN (a * cP) + 1) from ?_, pow_eq]
    unfold IntOp.addi
    generalize fieldN (a * cP) = n at *
    rw [show BitVec.ofNat 32 (n + 1) = BitVec.ofNat 32 n + 1#32 from BitVec.ofNat_add ..]
    generalize BitVec.ofNat 32 n = x
    rw [BitVec.sub_eq_add_neg, BitVec.add_assoc]; rfl

theorem sub_words (n : Fin 253) : IntOp.subi (127#32) (BitVec.ofNat 32 n.val - 126#32) = BitVec.ofNat 32 (253 - n.val) := by
  revert n; decide

theorem invW {a : EReal} (h : a * cP < T 253) :
    (FloatOps.ofBits (F := Ideal) .f32 (IntOp.shli .vector (IntOp.subi 127#32 (expW a)) 23#32) : EReal) = kInv a := by
  rw [expW_eq]
  unfold kInv
  by_cases h0 : a = 0
  · rw [if_pos h0, if_pos h0, show IntOp.subi (127#32) (0#32) = BitVec.ofNat 32 127 from rfl, pow_eq]
  · rw [if_neg h0, if_neg h0, sub_words ⟨fieldN (a * cP), (field_lt h).1⟩, pow_eq]

end Cert.Scale

end
-- ==== Proof.K.Ideal.Block.lean ====
/- One storing visit's block, over the extended reals, entry by entry. -/
module

public import proofs.«01_k».proof.Proof.K.Ideal.RunA
public import proofs.«01_k».proof.Proof.K.Scale
public import Idealize.ShloMosaic.Lib.Pointwise

@[expose] public section

set_option maxRecDepth 16384

noncomputable section

namespace Cert.KernelIdeal.Hand

open Cert.KernelIdeal.Gen
open Idealize.ShloMosaic Idealize.ShloMosaic.TcCoe
open Cert.Scale

/-- One step of the search on a column of words. -/
def stepV (p : FVec Ideal S512x1 .f32) (v : IVec S512x1 32) (b : BitVec 32) : IVec S512x1 32 :=
  select (cmpf .oge p (bitcastToFloat .f32 (shli (addi v (broadcast S512x1 b)) (broadcast S512x1 23#32)))) (addi v (broadcast S512x1 b)) v

theorem stepV_apply (p : FVec Ideal S512x1 .f32) (v : IVec S512x1 32) (b : BitVec 32) (i : S512x1.Idx) :
    stepV p v b i = stepW (p i) (v i) b := rfl

theorem pay6_eq (x : Vec Ideal S512x1408 .bf16) :
    k0_pay6 x = stepV (k0_pay5 x) (stepV (k0_pay5 x) (stepV (k0_pay5 x) (stepV (k0_pay5 x) (stepV (k0_pay5 x) (broadcast S512x1 0#32) 128#32) 64#32) 32#32) 16#32) 8#32 := rfl

theorem pay8_eq (a p : FVec Ideal S512x1 .f32) (v : IVec S512x1 32) :
    k0_pay8 a p v k0_pay7 = select (cmpf .oeq a (broadcast S512x1 (Scalar.ofBits .f32 0x00000000#32))) (broadcast S512x1 0#32)
      (subi (stepV p (stepV p (stepV p v 4#32) 2#32) 1#32) (broadcast S512x1 126#32)) := rfl

/-- A row's greatest magnitude, of the block of activations. -/
theorem pay4_apply (x : Vec Ideal S512x1408 .bf16) (r : Fin 512) : k0_pay4 x (ix2 r 0) = amax fun k => x (ix2 r k) := by
  unfold amax
  rw [← negInf_eq]
  pointwise [k0_pay4, k0_pay3]
  rfl

theorem pay8_apply (x : Vec Ideal S512x1408 .bf16) (r : Fin 512) :
    k0_pay8 (k0_pay4 x) (k0_pay5 x) (k0_pay6 x) k0_pay7 (ix2 r 0) = expW (amax fun k => x (ix2 r k)) := by
  have h5 : k0_pay5 x (ix2 r 0) = (amax fun k => x (ix2 r k)) * cP := by
    rw [← pay4_apply]; rfl
  rw [pay8_eq, pay6_eq]
  unfold expW
  rw [← h5, ← pay4_apply]
  rfl

theorem ldX_eq (x1 : Vec Ideal S512x1408 .bf16) : ldX x1 = x1 := by
  funext i
  exact congrFun (View.ld_unit_lit _ x1 (fun a => by fin_cases a <;> rfl)) i

/-- What holds of a row of activations for its scale to be in range. -/
abbrev RowFits (x1 : Vec Ideal S512x1408 .bf16) (r : Fin 512) : Prop := (amax fun k => x1 (ix2 r k)) * cP < Scale.T 253

theorem blkScale_apply (x1 : Vec Ideal S512x1408 .bf16) (r : Fin 512) (h : RowFits x1 r) :
    blkScale x1 (ix2 r 0) = kScale (amax fun k => x1 (ix2 r k)) := by
  unfold blkScale
  rw [ldX_eq, ← scaleW h, ← pay8_apply]
  rfl

theorem blkCodes_apply (x1 : Vec Ideal S512x1408 .bf16) (r : Fin 512) (k : Fin 1408) (h : RowFits x1 r) :
    blkCodes x1 (ix2 r k) = clip (x1 (ix2 r k) * kInv (amax fun k => x1 (ix2 r k))) := by
  unfold blkCodes
  rw [ldX_eq, ← invW h, ← pay8_apply]
  unfold clip
  pointwise [k0_pay10, k0_pay3]

end Cert.KernelIdeal.Hand

end
-- ==== Proof.K.Ideal.BlockW.lean ====
/- One storing visit's block, over the extended reals: the dequantised weights, the product and the merge, entry by entry. -/
module

public import proofs.«01_k».proof.Proof.K.Ideal.Block
public import Idealize.ShloMosaic.Lib.Pipeline.ValueKit.Tiles

@[expose] public section

set_option maxRecDepth 16384

noncomputable section

namespace Cert.KernelIdeal.Hand

open Cert.KernelIdeal.Gen
open Idealize.ShloMosaic Idealize.ShloMosaic.TcCoe
open Cert.Scale

theorem tileB_apply (s : Elt Ideal .f32) (w : Vec Ideal S1x128x128 .fp8e4m3) (q k : Fin 128) :
    tileB s w (ix2 q k) = (w (ix3 0 q k) * s : EReal) := by
  pointwise [tileB]

theorem rowB_apply (sc : Fin 4 → Fin 11 → Elt Ideal .f32) (x2 : Vec Ideal S1x512x1408 .fp8e4m3) (a : Fin 4) (q : Fin 128) (k : Fin 1408) :
    rowB sc x2 a (ix2 q k) = (x2 (ix3 0 ⟨128 * a.val + q.val, by omega⟩ k) * sc a ⟨k.val / 128, by omega⟩ : EReal) := by
  refine (concatenate_ofFn_apply (s₁ := S128x128) (t := S128x1408) 1 (fun o : Fin 11 => tileB (sc a o) (View.ld x2 (rT a o)))
    concatenates_S128x128_S128x128_S128x128_S128x128_S128x128_S128x128_S128x128_S128x128_S128x128_S128x128_S128x128_S128x1408_d1
    rfl 128 rfl (ix2 q k) ⟨k.val / 128, by omega⟩ rfl (ix2 q ⟨k.val % 128, by omega⟩) rfl ?_).trans ?_
  · intro b hb
    fin_cases b
    · rfl
    · exact absurd rfl hb
  · rw [tileB_apply]
    congr 1
    refine View.ld_unit_apply_of x2 _ _ _ _ _ ?_
    intro b
    fin_cases b
    · rfl
    · rfl
    · show k.val = 128 * (k.val / 128) + k.val % 128
      omega

/-- The dequantised weight of output column `d`, contraction index `k`. -/
def wE (sc : Fin 4 → Fin 11 → Elt Ideal .f32) (x2 : Vec Ideal S1x512x1408 .fp8e4m3) (d : Fin 512) (k : Fin 1408) : EReal :=
  x2 (ix3 0 d k) * sc ⟨d.val / 128, by omega⟩ ⟨k.val / 128, by omega⟩

/-- The block of weights: the four rows of blocks. -/
def wBlk (sc : Fin 4 → Fin 11 → Elt Ideal .f32) (x2 : Vec Ideal S1x512x1408 .fp8e4m3) : FVec Ideal S512x1408 .bf16 :=
  concatenate S512x1408 0 [⟨S128x1408, rowB sc x2 0⟩, ⟨S128x1408, rowB sc x2 1⟩, ⟨S128x1408, rowB sc x2 2⟩, ⟨S128x1408, rowB sc x2 3⟩]
    concatenates_S128x1408_S128x1408_S128x1408_S128x1408_S512x1408_d0

theorem wBlk_apply (sc : Fin 4 → Fin 11 → Elt Ideal .f32) (x2 : Vec Ideal S1x512x1408 .fp8e4m3) (d : Fin 512) (k : Fin 1408) :
    wBlk sc x2 (ix2 d k) = wE sc x2 d k := by
  refine (concatenate_ofFn_apply (s₁ := S128x1408) (t := S512x1408) 0 (fun a : Fin 4 => rowB sc x2 a)
    concatenates_S128x1408_S128x1408_S128x1408_S128x1408_S512x1408_d0
    rfl 128 rfl (ix2 d k) ⟨d.val / 128, by omega⟩ rfl (ix2 ⟨d.val % 128, by omega⟩ k) rfl ?_).trans ?_
  · intro b hb
    fin_cases b
    · exact absurd rfl hb
    · rfl
  · rw [rowB_apply]
    unfold wE
    have e : (⟨128 * (d.val / 128) + d.val % 128, by omega⟩ : Fin 512) = d := Fin.ext (by show 128 * (d.val / 128) + d.val % 128 = d.val; omega)
    exact congrArg (fun z => (x2 (ix3 0 z k) * sc _ _ : EReal)) e

/-- The merge and the product, opened. -/
theorem pay2_apply (s : FVec Ideal S512x1 .f32) (x : FVec Ideal S512x1408 .bf16) (sc : Fin 4 → Fin 11 → Elt Ideal .f32) (x2 : Vec Ideal S1x512x1408 .fp8e4m3)
    (lo hi : Elt Ideal .i32) (d3 : Vec Ideal S512x512 .bf16) (r d : Fin 512) :
    k0_pay2 s x (rowB sc x2 0) (rowB sc x2 1) (rowB sc x2 2) (rowB sc x2 3) lo hi d3 (ix2 r d)
      = Scalar.select (IntOp.andi (IntOp.cmpi .sge (BitVec.ofNat 32 r.val) lo) (IntOp.cmpi .slt (BitVec.ofNat 32 r.val) hi))
          ((∑ k : Fin 1408, x (ix2 r k) * wE sc x2 d k) * s (ix2 r 0) : EReal) (d3 (ix2 r d)) := by
  simp only [← wBlk_apply]
  show k0_pay2 s x (rowB sc x2 0) (rowB sc x2 1) (rowB sc x2 2) (rowB sc x2 3) lo hi d3 (ix2 r d) = _
  have h : k0_pay2 s x (rowB sc x2 0) (rowB sc x2 1) (rowB sc x2 2) (rowB sc x2 3) lo hi d3
      = truncf .bf16 (select (andi (cmpi .sge (iota .tc S512x512 32 [0] iota_S512x512_d0_w32) (broadcast S512x512 lo)) (cmpi .slt (iota .tc S512x512 32 [0] iota_S512x512_d0_w32) (broadcast S512x512 hi)))
          (extf .f32 (truncf .bf16 (mulf (matmul dot_S512x1408_S512x1408_S512x512_1_1_0_0_n_n none x (wBlk sc x2) (constant S512x512 .f32 0x00000000#32))
            (broadcastTo S512x512 s broadcasts_S512x1_S512x512)) bitsLt_bf16_f32) bitsLt_bf16_f32)
          (extf .f32 (shapeCast S512x512 d3 shapeCasts_S512x512_S512x512 : FVec Ideal S512x512 .bf16) bitsLt_bf16_f32)) bitsLt_bf16_f32 := rfl
  rw [h]
  generalize wBlk sc x2 = w
  pointwise

/-- The block after a storing visit. -/
theorem newBlk_apply (x1 : Vec Ideal S512x1408 .bf16) (x2 : Vec Ideal S1x512x1408 .fp8e4m3) (sc : Fin 4 → Fin 11 → Elt Ideal .f32) (lo hi : ℕ)
    (hlo : lo ≤ 512) (hhi : hi ≤ 512) (d3 : Vec Ideal S512x512 .bf16) (r d : Fin 512) (h : RowFits x1 r) :
    newBlk x1 x2 sc (BitVec.ofNat 32 lo) (BitVec.ofNat 32 hi) d3 (ix2 r d)
      = if lo ≤ r.val ∧ r.val < hi then
          (((∑ k : Fin 1408, clip (x1 (ix2 r k) * kInv (amax fun k => x1 (ix2 r k))) * wE sc x2 d k) * kScale (amax fun k => x1 (ix2 r k)) : EReal))
        else d3 (ix2 r d) := by
  unfold newBlk
  rw [pay2_apply, blkScale_apply _ _ h]
  simp only [blkCodes_apply _ _ _ h]
  rw [show View.ld d3 (Rect.unit (s := S512x512) ![0, 0] S512x512.size inb_S512x512_S512x512_0_0) = d3 from
    View.ld_unit_lit _ d3 (fun a => by fin_cases a <;> rfl)]
  have hr := r.isLt
  have tI : ∀ n : ℕ, n ≤ 512 → (BitVec.ofNat 32 n).toInt = n := fun n hn => by
    have hb : (BitVec.ofNat 32 n).toNat = n := by rw [BitVec.toNat_ofNat]; omega
    rw [BitVec.toInt_eq_toNat_of_lt (by omega), hb]
  have e1 : IntOp.cmpi .sge (BitVec.ofNat 32 r.val) (BitVec.ofNat 32 lo) = BitVec.ofBool (decide (lo ≤ r.val)) := by
    show BitVec.ofBool ((BitVec.ofNat 32 lo).sle (BitVec.ofNat 32 r.val)) = _
    rw [BitVec.sle_eq_decide, tI _ hlo, tI _ (by omega)]
    simp
  have e2 : IntOp.cmpi .slt (BitVec.ofNat 32 r.val) (BitVec.ofNat 32 hi) = BitVec.ofBool (decide (r.val < hi)) := by
    show BitVec.ofBool ((BitVec.ofNat 32 r.val).slt (BitVec.ofNat 32 hi)) = _
    rw [BitVec.slt_eq_decide, tI _ hhi, tI _ (by omega)]
    simp
  rw [e1, e2]
  by_cases h1 : lo ≤ r.val <;> by_cases h2 : r.val < hi <;> simp [h1, h2, Scalar.select, IntOp.andi]

end Cert.KernelIdeal.Hand

end
-- ==== Proof.K.Out.lean ====
/- What both sides compute, entry by entry. -/
module

public import proofs.«01_k».proof.Proof.K.Scale

@[expose] public section

noncomputable section

namespace Cert.Scale

open Idealize.ShloMosaic

/-- One entry of the result: the row's activations quantised, times its group's weights at their blocks' scales, times the row's scale. -/
def outE (x : Fin 1408 → EReal) (w : Fin 1408 → EReal) (s : Fin 11 → EReal) : EReal :=
  (∑ k : Fin 1408, clip (x k * Ideal.div 1 (rScale (amax x))) * (w k * s ⟨k.val / 128, by omega⟩)) * rScale (amax x)

end Cert.Scale

end
-- ==== Proof.K.Ideal.Reads.lean ====
/- What the windows' blocks hold of the argument arrays, and what a visit makes of the output's block, entry by entry. -/
module

public import proofs.«01_k».proof.Proof.K.Ideal.Tables
public import proofs.«01_k».proof.Proof.K.Ideal.BlockW
public import proofs.«01_k».proof.Proof.K.Out

@[expose] public section

set_option maxRecDepth 16384

noncomputable section

namespace Cert.KernelIdeal.Hand

open Cert.KernelIdeal.Gen Cert.Sched
open Idealize.ShloMosaic Idealize.ShloMosaic.TcCoe Idealize.ShloMosaic.StableHlo
open Idealize.ShloMosaic.Pipeline (Window)

section Any
variable {F : FTy → Type} [FloatOps F]
variable (m : (ℓ : Loc nD τ sig) → Buf (Elt F) ℓ) (c : Dev nD)

/-- The argument arrays as launched. -/
abbrev dyK : Vec F S6144x1408 .bf16 := m (c, Proc.devRef .tc main_arg0)
abbrev wK : Vec F S8x5120x1408 .fp8e4m3 := m (c, Proc.devRef .tc main_arg2)
abbrev sK : Vec F S8x40x11 .f32 := m (c, Proc.devRef .tc main_arg3)

theorem WI_main_arg3 : WI m c (Proc.devRef .tc main_arg3) = sK m c := by
  have h := V_main_arg3 m c
  rw [V_eq] at h
  refine Eq.trans ?_ h
  symm
  unfold WJ
  after_reads_simp

theorem WJ_main_v73 : WJ m c (Proc.devRef .tc main_v73) = shapeCast S3520 (sK m c) shapeCasts_S8x40x11_S3520 := by
  unfold WJ
  after_reads_simp
  try simp -implicitDefEqProofs only [StableHlo.TRef.toBuf, StableHlo.TRef.ofBuf, cast_cast, cast_eq, id_eq]
  try rw [WI_main_arg3]
  try rfl

theorem V_main_v73 : V m c main_v73 = shapeCast S3520 (sK m c) shapeCasts_S8x40x11_S3520 := (V_eq m c main_v73).trans (WJ_main_v73 m c)

theorem flat_apply (s : Vec F S8x40x11 .f32) (g : Fin 8) (a : Fin 40) (o : Fin 11) :
    shapeCast S3520 s shapeCasts_S8x40x11_S3520 (ix1 ⟨(g.val * 40 + a.val) * 11 + o.val, by omega⟩) = s (ix3 g a o) := by
  refine shapeCast_apply s _ _ _ ?_
  rw [Shape.rowMajor_val_three, Shape.rowMajor_val_one]
  rfl

/-! ## A window's block, at any contents of the tables -/

section Adm
variable (a : (pcfg0 (F := F)).Adm) (t : Fin (cfg0 a).N)

theorem read_0 (X : Vec F S3520 .f32) (y : Fin 3520) : (((cfg0 a).win 0).blk t).view.read (Elt F) X (ix1 y) = X (ix1 y) := by
  have h : ∀ x : Fin 1, ((((cfg0 a).win 0).rect t).emb (ix1 y) x : Nat) = (ix1 y : S3520.Idx) x := fun x => by
    fin_cases x
    exact Window.rect_emb_val_of_index_zero ((cfg0 a).win 0) t (0 : Fin 1) rfl (ix1 y)
  exact congrArg X (funext fun x => Fin.ext (h x))

theorem read_1 (X : Vec F S6144x1408 .bf16) (T : ℕ) (e : ((cfg0 a).win 1).index t = ![T, 0]) (r : Fin 512) (k : Fin 1408) (ρ : Fin 6144) (hρ : ρ.val = 512 * T + r.val) :
    (((cfg0 a).win 1).blk t).view.read (Elt F) X (ix2 r k) = X (ix2 ρ k) := by
  have h0 : ((((cfg0 a).win 1).rect t).emb (ix2 r k) (0 : Fin 2) : Nat) = ρ.val := by
    refine (Window.rect_emb_val ((cfg0 a).win 1) t (ix2 r k) (0 : Fin 2)).trans ?_
    rw [e]
    show T * 512 + r.val = ρ.val
    omega
  have h1 : ((((cfg0 a).win 1).rect t).emb (ix2 r k) (1 : Fin 2) : Nat) = k.val :=
    Window.rect_emb_val_of_index_zero ((cfg0 a).win 1) t (1 : Fin 2) (congrFun e (1 : Fin 2)) (ix2 r k)
  refine congrArg X (funext fun x => Fin.ext ?_)
  match x with
  | ⟨0, _⟩ => exact h0
  | ⟨1, _⟩ => exact h1

theorem read_2 (X : Vec F S8x5120x1408 .fp8e4m3) (G N : ℕ) (e : ((cfg0 a).win 2).index t = ![G, N, 0]) (d : Fin 512) (k : Fin 1408) (g : Fin 8) (q : Fin 5120)
    (hgr : g.val = G) (hq : q.val = 512 * N + d.val) :
    (((cfg0 a).win 2).blk t).view.read (Elt F) X (ix3 0 d k) = X (ix3 g q k) := by
  have h0 : ((((cfg0 a).win 2).rect t).emb (ix3 0 d k) (0 : Fin 3) : Nat) = g.val := by
    refine (Window.rect_emb_val ((cfg0 a).win 2) t (ix3 0 d k) (0 : Fin 3)).trans ?_
    rw [e]
    show G * 1 + 0 = g.val
    omega
  have h1 : ((((cfg0 a).win 2).rect t).emb (ix3 0 d k) (1 : Fin 3) : Nat) = q.val := by
    refine (Window.rect_emb_val ((cfg0 a).win 2) t (ix3 0 d k) (1 : Fin 3)).trans ?_
    rw [e]
    show N * 512 + d.val = q.val
    omega
  have h2 : ((((cfg0 a).win 2).rect t).emb (ix3 0 d k) (2 : Fin 3) : Nat) = k.val :=
    Window.rect_emb_val_of_index_zero ((cfg0 a).win 2) t (2 : Fin 3) (congrFun e (2 : Fin 3)) (ix3 0 d k)
  refine congrArg X (funext fun x => Fin.ext ?_)
  match x with
  | ⟨0, _⟩ => exact h0
  | ⟨1, _⟩ => exact h1
  | ⟨2, _⟩ => exact h2

end Adm

end Any

end Cert.KernelIdeal.Hand

end
-- ==== Proof.K.Ideal.Visit.lean ====
/- What a visit makes of the output's block over the extended reals, entry by entry. -/
module

public import proofs.«01_k».proof.Proof.K.Ideal.Reads

@[expose] public section

set_option maxRecDepth 16384

noncomputable section

namespace Cert.KernelIdeal.Hand

open Cert.KernelIdeal.Gen Cert.Sched
open Idealize.ShloMosaic Idealize.ShloMosaic.TcCoe Idealize.ShloMosaic.StableHlo
open Idealize.ShloMosaic.Pipeline (Window)
open Cert.Scale (outE amax clip rScale cP)

/-- The rows are in range: none overflows its scale. -/
def Fits (x : Vec Ideal S6144x1408 .bf16) : Prop := ∀ r : Fin 6144, (amax fun k => x (ix2 r k)) * cP < Scale.T 253

/-- The result at row `ρ`, column `q`, of the row's group `g`. -/
def resE (x : Vec Ideal S6144x1408 .bf16) (w : Vec Ideal S8x5120x1408 .fp8e4m3) (s : Vec Ideal S8x40x11 .f32) (g : Fin 8) (ρ : Fin 6144) (q : Fin 5120) : EReal :=
  outE (fun k => x (ix2 ρ k)) (fun k => w (ix3 g q k)) (fun j => s (ix3 g ⟨q.val / 128, by omega⟩ j))

/-- The storing visit's block, its input blocks being those of the argument arrays. -/
theorem newBlk_res (x : Vec Ideal S6144x1408 .bf16) (w : Vec Ideal S8x5120x1408 .fp8e4m3) (s : Vec Ideal S8x40x11 .f32) (hx : Fits x)
    (x1 : Vec Ideal S512x1408 .bf16) (x2 : Vec Ideal S1x512x1408 .fp8e4m3) (sc : Fin 4 → Fin 11 → Elt Ideal .f32) (lo hi : ℕ) (hlo : lo ≤ 512) (hhi : hi ≤ 512)
    (d3 : Vec Ideal S512x512 .bf16) (r d : Fin 512) (g : Fin 8) (ρ : Fin 6144) (q : Fin 5120)
    (h1 : ∀ k, x1 (ix2 r k) = x (ix2 ρ k)) (h2 : ∀ k, x2 (ix3 0 d k) = w (ix3 g q k))
    (h3 : ∀ o, sc ⟨d.val / 128, by omega⟩ o = s (ix3 g ⟨q.val / 128, by omega⟩ o)) :
    newBlk x1 x2 sc (BitVec.ofNat 32 lo) (BitVec.ofNat 32 hi) d3 (ix2 r d)
      = if lo ≤ r.val ∧ r.val < hi then resE x w s g ρ q else d3 (ix2 r d) := by
  have hrow : (fun k => x1 (ix2 r k)) = fun k => x (ix2 ρ k) := funext h1
  have hfit : (amax fun k => x1 (ix2 r k)) * cP < Scale.T 253 := by rw [hrow]; exact hx ρ
  rw [newBlk_apply x1 x2 sc lo hi hlo hhi d3 r d hfit]
  refine congrArg (fun e => if lo ≤ r.val ∧ r.val < hi then e else d3 (ix2 r d)) ?_
  rw [Scale.scale_eq hfit, Scale.inv_eq hfit, hrow]
  unfold resE outE
  refine congrArg (fun e : EReal => e * _) (Finset.sum_congr rfl fun k _ => ?_)
  unfold wE
  rw [h1 k, h2 k, h3]

variable (m : (ℓ : Loc nD τ sig) → Buf (Elt Ideal) ℓ) {f : ℕ → ℕ} (hf : En f 7 = 6144) (hg : ∀ c, Holds (gsz m c) f)

theorem cond_iff {a b : ℕ} (ha : a ≤ 512) (hb : b ≤ 512) : k0_cond1 (BitVec.ofNat 32 a) (BitVec.ofNat 32 b) = 1#1 ↔ b < a := by
  have tI : ∀ n : ℕ, n ≤ 512 → (BitVec.ofNat 32 n).toInt = n := fun n hn => by
    have hb : (BitVec.ofNat 32 n).toNat = n := by rw [BitVec.toNat_ofNat]; omega
    rw [BitVec.toInt_eq_toNat_of_lt (by omega), hb]
  have e : Scalar.cmpi .sgt (BitVec.ofNat 32 a) (BitVec.ofNat 32 b) = BitVec.ofBool (decide (b < a)) := by
    show BitVec.ofBool ((BitVec.ofNat 32 b).slt (BitVec.ofNat 32 a)) = _
    rw [BitVec.slt_eq_decide, tI _ ha, tI _ hb]
    simp
  unfold k0_cond1
  dsimp only
  rw [e]
  by_cases h : b < a
  · simp only [h, decide_true, iff_true]; decide
  · simp only [h, decide_false, iff_false]; decide

theorem sc_read (hO : Ok m) (c : Dev nD) (t : Fin (cfgM m hO).N) (y : Fin 3520) :
    (iblk m hO c 0 t : Vec Ideal S3520 .f32) (ix1 y) = shapeCast S3520 (sK m c) shapeCasts_S8x40x11_S3520 (ix1 y) :=
  (read_0 (adm m hO) t (V m c main_v73) y).trans (congrFun (V_main_v73 m c) (ix1 y))

/-- The scale read for weight block `(a, o)`. -/
theorem scW_apply (i : grid0.Coords) (v1 v3 v5 : BitVec 32) (hw : k0_chk1 i v1 v3 v5) (h1 : k0_cond1 v3 v5 = 1#1) (x0 : Vec Ideal S3520 .f32)
    (a : Fin 4) (o : Fin 11) {g : ℕ} (hv : v1 = BitVec.ofNat 32 g) (hg8 : g < 8) :
    scW i v1 v3 v5 hw h1 x0 a o = x0 (ix1 ⟨(g * 40 + (i 0).val * 4 + a.val) * 11 + o.val, by
      have h0 : (i 0).val < 10 := (i 0).isLt
      omega⟩) := by
  subst hv
  unfold scW
  refine View.ld_unit_apply_of x0 _ _ _ _ _ ?_
  intro b
  refine Eq.trans ?_ (congrArg (fun n => n + ((Shape.Idx.first (numel1_S1.symm ▸ Nat.one_pos) : S1.Idx) b).val) (congrFun (off2_val i hg8 a o) b).symm)
  fin_cases b
  rfl

include hf hg in
theorem outAt_apply (hO : Ok m) (hw : ∀ c, ChkAll m c) (c : Dev nD) (hx : Fits (dyK m c)) (t : Fin (cfgM m hO).N) (Y : Vec Ideal S512x512 .bf16) (r d : Fin 512)
    (g : Fin 8) (ρ : Fin 6144) (q : Fin 5120) (hgr : g.val = gr f (vis (grid0.coords t)))
    (hρ : ρ.val = 512 * tl f (vis (grid0.coords t)) + r.val) (hq : q.val = 512 * (grid0.coords t 0).val + d.val) :
    outAt m hO c (hw c) t Y (ix2 r d)
      = if lo f (vis (grid0.coords t)) ≤ r.val ∧ r.val < hi f (vis (grid0.coords t)) then resE (dyK m c) (wK m c) (sK m c) g ρ q else Y (ix2 r d) := by
  have hlo : lo f (vis (grid0.coords t)) ≤ 512 := lo_le _
  have hhi : hi f (vis (grid0.coords t)) ≤ 512 := hi_le _
  have hc : CondAt m c (grid0.coords t) ↔ lo f (vis (grid0.coords t)) < hi f (vis (grid0.coords t)) := by
    unfold CondAt
    rw [w_hi m hf hg c, w_lo m hf hg c]
    exact cond_iff hhi hlo
  by_cases h : CondAt m c (grid0.coords t)
  · rw [show outAt m hO c (hw c) t Y = _ from dif_pos h, w_lo' m hf hg c, w_hi' m hf hg c]
    refine newBlk_res (dyK m c) (wK m c) (sK m c) hx _ _ _ _ _ hlo hhi Y r d g ρ q (fun k => ?_) (fun k => ?_) (fun o => ?_)
    · refine (read_1 (adm m hO) t (V m c main_arg0) _ (map_1 m hf hg (grid0.coords t)) r k ρ hρ).trans ?_
      exact congrFun (V_main_arg0 m c) _
    · refine (read_2 (adm m hO) t (V m c main_arg2) _ _ (map_2 m hf hg (grid0.coords t)) d k g q hgr hq).trans ?_
      exact congrFun (V_main_arg2 m c) _
    · refine (scW_apply (f := f) (grid0.coords t) _ _ _ _ h (iblk m hO c 0 t) ⟨d.val / 128, by omega⟩ o (w_gr m hf hg c (grid0.coords t)) (gr_spec hf _).1).trans ?_
      refine (sc_read m hO c t _).trans ?_
      refine Eq.trans (congrArg (fun n : Fin 3520 => shapeCast S3520 (sK m c) shapeCasts_S8x40x11_S3520 (ix1 n)) (Fin.ext ?_))
        (flat_apply (sK m c) g ⟨q.val / 128, by omega⟩ o)
      show (gr f (vis (grid0.coords t)) * 40 + (grid0.coords t 0).val * 4 + d.val / 128) * 11 + o.val = (g.val * 40 + q.val / 128) * 11 + o.val
      rw [hgr, hq]
      omega
  · rw [show outAt m hO c (hw c) t Y = _ from dif_neg h, if_neg]
    have := mt hc.2 h
    omega

end Cert.KernelIdeal.Hand

end
-- ==== Proof.K.Ideal.Geom.lean ====
/- Where the output's blocks go: which points write back, that no two of them write the same block, and that together they cover the array. -/
module

public import proofs.«01_k».proof.Proof.K.Ideal.Reads

@[expose] public section

set_option maxRecDepth 16384

noncomputable section

namespace Cert.KernelIdeal.Hand

open Cert.KernelIdeal.Gen Cert.Sched
open Idealize.ShloMosaic Idealize.ShloMosaic.TcCoe Idealize.ShloMosaic.StableHlo
open Idealize.ShloMosaic.Pipeline (Window)

/-- The points run through the visits, once for each block of columns. -/
theorem coords_val : ∀ t : Fin grid0.N, (grid0.coords t 0).val = t.val / 19 ∧ (grid0.coords t 1).val = t.val % 19 := by decide +kernel

theorem N_eq : grid0.N = 190 := by decide +kernel

variable {F : FTy → Type} [FloatOps F] (a : (pcfg0 (F := F)).Adm) {f : ℕ → ℕ}
  (e : ∀ t : Fin grid0.N, ((cfg0 a).win 3).index t = ![tl f (t.val % 19), t.val / 19])

theorem flush_iff (t : Fin grid0.N) : ((cfg0 a).win 3).flush t = true
    ↔ t.val + 1 = grid0.N ∨ ∃ h : t.val + 1 < grid0.N, ((cfg0 a).win 3).index ⟨t.val + 1, h⟩ ≠ ((cfg0 a).win 3).index t := by
  have h : ((cfg0 a).win 3).flush t
    = (true && (decide (t.val + 1 = grid0.N) || decide (∃ h : t.val + 1 < grid0.N, ((cfg0 a).win 3).index ⟨t.val + 1, h⟩ ≠ ((cfg0 a).win 3).index t))) := rfl
  rw [h, Bool.true_and, Bool.or_eq_true, decide_eq_true_eq, decide_eq_true_eq]

include e

theorem idx_eq_iff (t u : Fin grid0.N) : ((cfg0 a).win 3).index t = ((cfg0 a).win 3).index u ↔ tl f (t.val % 19) = tl f (u.val % 19) ∧ t.val / 19 = u.val / 19 := by
  rw [e t, e u]
  constructor
  · intro h
    exact ⟨congrFun h (0 : Fin 2), congrFun h (1 : Fin 2)⟩
  · rintro ⟨h0, h1⟩
    rw [h0, h1]

/-- A point whose next has the same block does not write it back. -/
theorem not_flush (t u : Fin grid0.N) (hu : u.val = t.val + 1) (h : tl f (t.val % 19) = tl f (u.val % 19)) (hn : t.val / 19 = u.val / 19) :
    ¬ ((cfg0 a).win 3).flush t = true := by
  rw [flush_iff]
  have hlt := u.isLt
  rintro (h1 | ⟨h1, h2⟩)
  · omega
  · refine h2 ?_
    have hq : (⟨t.val + 1, h1⟩ : Fin grid0.N) = u := Fin.ext hu.symm
    rw [hq]
    exact (idx_eq_iff a e u t).2 ⟨h.symm, hn.symm⟩

theorem flush_last (t : Fin grid0.N) (h : ∀ u : Fin grid0.N, u.val = t.val + 1 → t.val / 19 = u.val / 19 → tl f (u.val % 19) ≠ tl f (t.val % 19)) :
    ((cfg0 a).win 3).flush t = true := by
  rw [flush_iff]
  by_cases h1 : t.val + 1 < grid0.N
  · refine Or.inr ⟨h1, fun h2 => ?_⟩
    obtain ⟨h3, h4⟩ := (idx_eq_iff a e _ t).1 h2
    exact h ⟨t.val + 1, h1⟩ rfl h4.symm h3
  · have := t.isLt
    exact Or.inl (by omega)

variable (hf : En f 7 = 6144)
include hf

theorem flush_inj_lt (t u : Fin grid0.N) (ht : ((cfg0 a).win 3).flush t = true) (hlt : t.val < u.val) : ((cfg0 a).win 3).index t ≠ ((cfg0 a).win 3).index u := by
  intro h
  obtain ⟨h0, h1⟩ := (idx_eq_iff a e t u).1 h
  have hu := u.isLt
  refine not_flush a e t ⟨t.val + 1, by omega⟩ rfl ?_ ?_ ht
  · have m1 := tl_mono hf (v := t.val % 19) (w := (t.val + 1) % 19) (by omega)
    have m2 := tl_mono hf (v := (t.val + 1) % 19) (w := u.val % 19) (by omega)
    show tl f (t.val % 19) = tl f ((t.val + 1) % 19)
    omega
  · show t.val / 19 = (t.val + 1) / 19
    omega

/-- No two write-backs meet. -/
theorem disj (t u : Fin grid0.N) (ht : ((cfg0 a).win 3).flush t = true) (hu : ((cfg0 a).win 3).flush u = true) (hne : t ≠ u) :
    Disjoint (((cfg0 a).win 3).blk t).view.set (((cfg0 a).win 3).blk u).view.set := by
  refine Window.disjoint_blk ((cfg0 a).win 3) ?_
  rcases Nat.lt_or_gt_of_ne (fun h => hne (Fin.ext h)) with h | h
  · exact flush_inj_lt a e hf t u ht h
  · exact fun h' => flush_inj_lt a e hf u t hu h h'.symm

omit hf in
/-- Where an entry of the block lies. -/
theorem emb_3 (t : Fin grid0.N) (r d : Fin 512) (ρ : Fin 6144) (q : Fin 5120) (hρ : ρ.val = 512 * tl f (t.val % 19) + r.val) (hq : q.val = 512 * (t.val / 19) + d.val) :
    (((cfg0 a).win 3).blk t).view.emb (ix2 r d) = ix2 ρ q := by
  have h0 : ((((cfg0 a).win 3).rect t).emb (ix2 r d) (0 : Fin 2) : Nat) = ρ.val := by
    refine (Window.rect_emb_val ((cfg0 a).win 3) t (ix2 r d) (0 : Fin 2)).trans ?_
    rw [e]
    show tl f (t.val % 19) * 512 + r.val = ρ.val
    omega
  have h1 : ((((cfg0 a).win 3).rect t).emb (ix2 r d) (1 : Fin 2) : Nat) = q.val := by
    refine (Window.rect_emb_val ((cfg0 a).win 3) t (ix2 r d) (1 : Fin 2)).trans ?_
    rw [e]
    show t.val / 19 * 512 + d.val = q.val
    omega
  refine funext fun x => Fin.ext ?_
  match x with
  | ⟨0, _⟩ => exact h0
  | ⟨1, _⟩ => exact h1

omit e in
/-- For each entry there is a point that writes it back, after a visit that covers it. -/
theorem exists_last (r : ℕ) (hr : r < 6144) (n : ℕ) (hn : n < 10) :
    ∃ t : Fin grid0.N, t.val / 19 = n ∧ tl f (t.val % 19) = r / 512 ∧ (∃ v ≤ t.val % 19, tl f v = r / 512 ∧ lo f v ≤ r % 512 ∧ r % 512 < hi f v)
      ∧ ∀ u : Fin grid0.N, u.val = t.val + 1 → t.val / 19 = u.val / 19 → tl f (u.val % 19) ≠ tl f (t.val % 19) := by
  classical
  obtain ⟨v, hv, h1, h2, h3⟩ := exists_visit hf hr
  let P : ℕ → Prop := fun w => tl f w = r / 512
  have hP := Nat.findGreatest_spec (P := P) (m := v) (n := 18) (by omega) h1
  have hle := Nat.findGreatest_le (P := P) 18
  have hge := Nat.le_findGreatest (P := P) (m := v) (n := 18) (by omega) h1
  have hmax : ∀ w, Nat.findGreatest P 18 < w → w ≤ 18 → ¬ P w := fun w a b => Nat.findGreatest_is_greatest a b
  generalize Nat.findGreatest P 18 = g at hP hle hge hmax
  have hN := N_eq
  have hd : (19 * n + g) / 19 = n := by omega
  have hm : (19 * n + g) % 19 = g := by omega
  refine ⟨⟨19 * n + g, by omega⟩, hd, ?_, ⟨v, ?_, h1, h2, h3⟩, ?_⟩
  · show tl f ((19 * n + g) % 19) = _
    rw [hm]; exact hP
  · show v ≤ (19 * n + g) % 19
    omega
  · intro u hu hdu
    have hu' : u.val = 19 * n + g + 1 := hu
    have hdu' : (19 * n + g) / 19 = u.val / 19 := hdu
    have hw : u.val % 19 = g + 1 := by omega
    show tl f (u.val % 19) ≠ tl f ((19 * n + g) % 19)
    rw [hw, hm]
    have hP' : tl f g = r / 512 := hP
    intro hc
    exact hmax (g + 1) (by omega) (by omega) (show tl f (g + 1) = r / 512 from hc.trans hP')

end Cert.KernelIdeal.Hand

end
-- ==== Proof.K.Ideal.Value.lean ====
/- The kernel's result over the extended reals, entry by entry: the blocks hold, after each visit, the rows covered so far; the run's array
   is then the result everywhere. -/
module

public import proofs.«01_k».proof.Proof.K.Ideal.Visit
public import proofs.«01_k».proof.Proof.K.Ideal.Geom
public import Idealize.ShloMosaic.Lib.Pipeline.ArrRel
public import Idealize.ShloMosaic.Lib.Pipeline.ValueKit

@[expose] public section

set_option maxRecDepth 16384

noncomputable section

namespace Cert.KernelIdeal.Hand

open Cert.KernelIdeal.Gen Cert.Sched
open Idealize.ShloMosaic Idealize.ShloMosaic.TcCoe Idealize.ShloMosaic.StableHlo
open Idealize.SL Idealize.SL.Sem
open Idealize.ShloMosaic.Pipeline (Window Dat RDat)

variable (m : (ℓ : Loc nD τ sig) → Buf (Elt Ideal) ℓ) (ρ₀ : Dev nD → PrngReg) (f : ℕ → ℕ)

/-- The result, entry by entry. -/
def outK (c : Dev nD) (ρ : Fin 6144) (q : Fin 5120) : EReal :=
  resE (dyK m c) (wK m c) (sK m c) ⟨rowGr f ρ.val % 8, by omega⟩ ρ q

/-- What the output's block holds after the visit of point `t`: at the rows this visit or an earlier one of the same tile covers, the result. -/
def Rv (hO : Ok m) (c : Dev nD) (t : Fin (cfgM m hO).N) (X : Vec Ideal S512x512 .bf16) : Prop :=
  ∀ v ≤ t.val % 19, tl f v = tl f (t.val % 19) → ∀ r d : Fin 512, lo f v ≤ r.val → r.val < hi f v →
    ∀ (ρ : Fin 6144) (q : Fin 5120), ρ.val = 512 * tl f (t.val % 19) + r.val → q.val = 512 * (t.val / 19) + d.val → X (ix2 r d) = outK m f c ρ q

variable {f} (hf : En f 7 = 6144) (hg : ∀ c, Holds (gsz m c) f)

section
include hf hg

theorem idx_3 (hO : Ok m) (t : Fin grid0.N) : ((cfgM m hO).win 3).index t = ![tl f (t.val % 19), t.val / 19] := by
  have h : ((cfgM m hO).win 3).index t = ![tl f (grid0.coords t 1).val, (grid0.coords t 0).val] := map_3 m hf hg (grid0.coords t)
  rw [h, (coords_val t).1, (coords_val t).2]

/-- What the point finds in the block has the rows of the earlier visits of its tile. -/
theorem finds_prev (hO : Ok m) (c : Dev nD) (t : Fin (cfgM m hO).N) (Y : Vec Ideal S512x512 .bf16)
    (hY : (rdat m hO (Rv m f hO c) c).Finds 3 t Y) (v : ℕ) (hv : v < t.val % 19) (ht : tl f v = tl f (t.val % 19)) :
    ∃ u : Fin (cfgM m hO).N, u.val + 1 = t.val ∧ Rv m f hO c u Y := by
  have h0 : t.val ≠ 0 := by intro h; rw [h] at hv; omega
  have hu : t.val - 1 < (cfgM m hO).N := Nat.lt_of_le_of_lt (Nat.sub_le _ _) t.isLt
  refine ⟨⟨t.val - 1, hu⟩, by show t.val - 1 + 1 = t.val; omega, ?_⟩
  rcases ((rdat m hO (Rv m f hO c) c).finds_of_pos (w := 3) rfl h0 Y).1 hY with h | h
  · refine absurd h (not_flush (adm m hO) (idx_3 m hf hg hO) ⟨t.val - 1, hu⟩ t (by show t.val = t.val - 1 + 1; omega) ?_ ?_)
    · have m1 := tl_mono hf (v := v) (w := (t.val - 1) % 19) (by omega)
      have m2 := tl_mono hf (v := (t.val - 1) % 19) (w := t.val % 19) (by omega)
      show tl f ((t.val - 1) % 19) = tl f (t.val % 19)
      omega
    · show (t.val - 1) / 19 = t.val / 19
      omega
  · exact Dat.toRRel_leaves (dats m hO 0 c) (w := 3) rfl h

theorem keeps (hO : Ok m) (hw : ∀ c, ChkAll m c) (hx : ∀ c, Fits (dyK m c)) : Keeps m (Rv m f) hO hw := by
  intro c t Y hY v hv ht r d h1 h2 ρ q hρ hq
  have c0 := (coords_val t).1
  have c1 := (coords_val t).2
  have hvis : (vis (grid0.coords t)).val = t.val % 19 := c1
  have hgr8 : gr f (t.val % 19) < 8 := (gr_spec hf _).1
  rw [outAt_apply m hf hg hO hw c (hx c) t Y r d ⟨gr f (t.val % 19), hgr8⟩ ρ q (by rw [hvis]) (by rw [hvis]; exact hρ) (by rw [c0]; exact hq), hvis]
  by_cases hcov : lo f (t.val % 19) ≤ r.val ∧ r.val < hi f (t.val % 19)
  · rw [if_pos hcov]
    unfold outK
    congr 1
    refine Fin.ext ?_
    have hr := rowGr_of_covers hcov.1 hcov.2 hgr8
    show gr f (t.val % 19) = rowGr f ρ.val % 8
    rw [hρ, hr]
    omega
  · rw [if_neg hcov]
    have hlt : v < t.val % 19 := by
      rcases Nat.lt_or_eq_of_le hv with h | h
      · exact h
      · rw [h] at h1 h2
        exact absurd ⟨h1, h2⟩ hcov
    obtain ⟨u, hu, hR⟩ := finds_prev m hf hg hO c t Y hY v hlt ht
    have m1 := tl_mono hf (v := v) (w := u.val % 19) (by omega)
    have m2 := tl_mono hf (v := u.val % 19) (w := t.val % 19) (by omega)
    exact hR v (by omega) (by omega) r d h1 h2 ρ q (by omega) (by omega)

/-- An array made of blocks that hold the result holds the result. -/
theorem arr_value (hO : Ok m) (c : Dev nD) (dat : Dat τ (Elt Ideal) Unit ℕ (UR sig nD τ) ℕ (cfgM m hO) c)
    (h : ∀ t : Fin (cfgM m hO).N, ((cfgM m hO).win 3).flush t = true → Rv m f hO c t (dat.after 3 t)) (ρ : Fin 6144) (q : Fin 5120) :
    dat.arrAt 3 (cfgM m hO).N (ix2 ρ q) = outK m f c ρ q := by
  have e := idx_3 m hf hg hO
  obtain ⟨t, hn, ht, ⟨v, hv, h1, h2, h3⟩, hl⟩ := exists_last hf ρ.val ρ.isLt (q.val / 512) (by omega)
  have hfl := flush_last (adm m hO) e t hl
  have hemb := emb_3 (adm m hO) e t ⟨ρ.val % 512, by omega⟩ ⟨q.val % 512, by omega⟩ ρ q (by rw [ht]; show ρ.val = 512 * (ρ.val / 512) + ρ.val % 512; omega)
    (by rw [hn]; show q.val = 512 * (q.val / 512) + q.val % 512; omega)
  have ha := dat.arrAt_emb_eq_flushed 3 (disj (adm m hO) e hf) t hfl (ix2 ⟨ρ.val % 512, by omega⟩ ⟨q.val % 512, by omega⟩)
  rw [hemb] at ha
  refine ha.trans ?_
  exact h t hfl v hv (h1.trans ht.symm) ⟨ρ.val % 512, by omega⟩ ⟨q.val % 512, by omega⟩ h2 h3 ρ q
    (by rw [ht]; show ρ.val = 512 * (ρ.val / 512) + ρ.val % 512; omega) (by rw [hn]; show q.val = 512 * (q.val / 512) + q.val % 512; omega)

/-- The run leaves the result in the output's array. -/
theorem run_value (hO : Ok m) (hw : ∀ c, ChkAll m c) (hx : ∀ c, Fits (dyK m c)) :
    θ_run defs (onTc (τ := τ) (main (F := Ideal))) ⟨m, fun _ => 0, ρ₀⟩ (fun r => ∀ c : Dev nD, ∀ (ρ : Fin 6144) (q : Fin 5120),
      r.2.mem ((c.tc : Thread nD τ).loc main_v74) (ix2 ρ q) = outK m f c ρ q) := by
  refine (θ_run defs _ _).mono (fun r h c ρ q => ?_) (run_main m ρ₀ (Rv m f) hO hw (keeps m hf hg hO hw hx))
  obtain ⟨after, hL, hA⟩ := RDat.FramePost.exists_exact h c
  refine (congrFun (hA 3) (ix2 ρ q)).trans ?_
  refine arr_value m hf hg hO c ((rdat m hO (Rv m f hO c) c).withAfter after) (fun t ht => ?_) ρ q
  have hl : Rl m hO (Rv m f hO c) 3 t (after 3 t) := Dat.toRRel_leaves (dats m hO 0 c) (w := 3) rfl (hL 3 t ht)
  exact hl

end

end Cert.KernelIdeal.Hand

end
-- ==== Proof.K.Fits.lean ====
/- Activations that are finite bfloat16 numbers are in range of the scales. -/
module

public import proofs.«01_k».proof.Defs
public import proofs.«01_k».proof.Proof.K.Ideal.Value

@[expose] public section

set_option maxRecDepth 16384

noncomputable section

namespace Cert

open Idealize.ShloMosaic

/-- The comparison the precondition makes. -/
def leV [h : Cert.Pre_groups_fit_finite.Facts] (x : FVec Ideal Pre_groups_fit_finite.S6144x1408 .bf16) : IVec Pre_groups_fit_finite.S6144x1408 1 :=
  cmpf .ole (Host.absf x) (broadcastInDim Pre_groups_fit_finite.S6144x1408 ![] h.bcast_S_S6144x1408 (constant Pre_groups_fit_finite.S_ .bf16 0x7F7F#16))

theorem leV_apply [h : Cert.Pre_groups_fit_finite.Facts] (x : FVec Ideal Pre_groups_fit_finite.S6144x1408 .bf16) (r : Fin 6144) (k : Fin 1408) :
    leV x (ix2 r k) = BitVec.ofBool (decide ((max (x (ix2 r k)) (-(x (ix2 r k))) : EReal) ≤ Ideal.ofBits .bf16 0x7F7F#16)) := by
  pointwise [leV]
  rfl

theorem fits_of_le [h : Cert.Pre_groups_fit_finite.Facts] (x : FVec Ideal Pre_groups_fit_finite.S6144x1408 .bf16) (hx : ∀ i, leV x i = 1#1) : KernelIdeal.Hand.Fits x := fun r => by
  refine Scale.amax_fits fun k => ?_
  have h1 := hx (ix2 r k)
  rw [leV_apply] at h1
  by_contra hc
  rw [decide_eq_false hc] at h1
  exact absurd h1 (by decide)

theorem fits_KernelIdeal [h : Cert.Pre_groups_fit_finite.Facts]
    (m : (ℓ : Loc KernelIdeal.nD KernelIdeal.τ KernelIdeal.sig) → Buf (Elt Ideal) ℓ)
    (hp : Pre_KernelIdeal_groups_fit_finite m) (c : Dev KernelIdeal.nD) : KernelIdeal.Hand.Fits (KernelIdeal.Hand.dyK m c) :=
  fits_of_le (KernelIdeal.Hand.dyK m c) (congrFun (hp c).2.2)

end Cert

end
-- ==== Proof.K.Ref.Prefix.lean ====
/- What the reference's host operations leave in the buffers its region reads, stretch after stretch. -/
module

public import proofs.«01_k».proof.Proof.Gen.ReferenceIdeal.Value
public import Idealize.ShloMosaic.Lib.StableHlo.RunRead

@[expose] public section

set_option maxRecDepth 16384

noncomputable section

namespace Cert.ReferenceIdeal.Hand

open Cert.ReferenceIdeal.Gen
open Idealize.ShloMosaic Idealize.ShloMosaic.TcCoe Idealize.ShloMosaic.StableHlo

variable {F : FTy → Type} [FloatOps F]
variable (m : (ℓ : Loc nD τ sig) → Buf (Elt F) ℓ) (c : Dev nD)

/-! ## The values, over the arguments -/

/-- The activations. -/
abbrev dyA : FVec F S6144x1408 .bf16 := m (c, Proc.devRef .tc main_arg0)
/-- The group sizes. -/
abbrev gszA : IVec S8 32 := m (c, Proc.devRef .tc main_arg1)
/-- The weight scales. -/
abbrev wscA : FVec F S8x40x11 .f32 := m (c, Proc.devRef .tc main_arg3)

/-- The rows' greatest magnitudes. -/
def aV (x : FVec F S6144x1408 .bf16) : FVec F S6144x1 .f32 :=
  broadcastInDim S6144x1 ![0] bcast_S6144_S6144x1_0
    (Host.reduce FloatOps.maximumf (Host.absf (extf .f32 x bitsLt_bf16_f32 : FVec F S6144x1408 .f32) : FVec F S6144x1408 .f32) (constant S_ .f32 0xFF800000#32) reducesTo_S6144x1408_S6144_d1 h_S_ : FVec F S6144 .f32)

/-- The powers of two. -/
def powV : FVec F S1x254 .f32 :=
  broadcastInDim S1x254 ![1] bcast_S254_S1x254_1 ((fun i => FloatOps.ofBits .f32 (lit0 (S254.rowMajor i))) : FVec F S254 .f32)

/-- Which powers lie above the row's number. -/
def gtV (a : FVec F S6144x1 .f32) : IVec S6144x254 1 :=
  cmpf .ogt (broadcastInDim S6144x254 ![0, 1] bcast_S1x254_S6144x254_0_1 powV : FVec F S6144x254 .f32)
    (broadcastInDim S6144x254 ![0, 1] bcast_S6144x1_S6144x254_0_1
      (mulf a (broadcastInDim S6144x1 ![] bcast_S_S6144x1 (constant S_ .f32 0x37924925#32))) : FVec F S6144x254 .f32)

/-- The least power above. -/
def aboveV (a : FVec F S6144x1 .f32) : FVec F S6144x1 .f32 :=
  broadcastInDim S6144x1 ![0] bcast_S6144_S6144x1_0
    (Host.reduce FloatOps.minimumf (select (gtV a) (broadcastInDim S6144x254 ![0, 1] bcast_S1x254_S6144x254_0_1 powV : FVec F S6144x254 .f32)
      (broadcastInDim S6144x254 ![] bcast_S_S6144x254 (constant S_ .f32 0x7F800000#32) : FVec F S6144x254 .f32)) (constant S_ .f32 0x7F800000#32) reducesTo_S6144x254_S6144_d1 h_S_ : FVec F S6144 .f32)

/-- The rows' scales. -/
def scaleV (a : FVec F S6144x1 .f32) : FVec F S6144x1 .f32 :=
  select (cmpf .oeq a (broadcastInDim S6144x1 ![] bcast_S_S6144x1 (constant S_ .f32 0x00000000#32)))
    (broadcastInDim S6144x1 ![] bcast_S_S6144x1 (constant S_ .f32 0x3F800000#32)) (aboveV a)

/-- The quantised activations. -/
def clipV (x : FVec F S6144x1408 .bf16) : FVec F S6144x1408 .f32 :=
  minimumf (broadcastInDim S6144x1408 ![] bcast_S_S6144x1408 (constant S_ .f32 0x47600000#32))
    (maximumf (broadcastInDim S6144x1408 ![] bcast_S_S6144x1408 (constant S_ .f32 0xC7600000#32))
      (mulf (extf .f32 x bitsLt_bf16_f32 : FVec F S6144x1408 .f32) (broadcastInDim S6144x1408 ![0, 1] bcast_S6144x1_S6144x1408_0_1
        (Host.divf (broadcastInDim S6144x1 ![] bcast_S_S6144x1 (constant S_ .f32 0x3F800000#32)) (scaleV (aV x)) : FVec F S6144x1 .f32))))

/-- The groups' ends. -/
def endV (z : IVec S8 32) : IVec S8 32 :=
  Host.reduceWindow IntOp.addi ![8] ![1] ![7] ![0] z (broadcastInDim S_ ![] bcast_S_S_ (constantI S_ 32 0#32)) reduceWindows_S8_S8_w8s1p7_0 h_S_

/-- The rows' groups. -/
def grpV (e : IVec S8 32) : IVec S6144x1 32 :=
  broadcastInDim S6144x1 ![0] bcast_S6144_S6144x1_0
    (Host.reduce IntOp.addi (extui 32 (cmpi .sge (broadcastInDim S6144x8 ![0, 1] bcast_S6144x1_S6144x8_0_1 (broadcastInDim S6144x1 ![0] bcast_S6144_S6144x1_0 (iotaInDim S6144 32 0)))
      (broadcastInDim S6144x8 ![0, 1] bcast_S1x8_S6144x8_0_1 (broadcastInDim S1x8 ![1] bcast_S8_S1x8_1 e))) natLt_1_32 : IVec S6144x8 32) (constantI S_ 32 0#32) reducesTo_S6144x8_S6144_d1 h_S_ : IVec S6144 32)

/-- The weight scales, one to a weight. -/
def sFullV (s : FVec F S8x40x11 .f32) : FVec F S8x5120x1408 .bf16 :=
  shapeCast S8x5120x1408 (broadcastInDim S8x5120x11x128 ![0, 1, 2] bcast_S8x5120x11_S8x5120x11x128_0_1_2
    (shapeCast S8x5120x11 (broadcastInDim S8x40x128x11 ![0, 1, 3] bcast_S8x40x11_S8x40x128x11_0_1_3 (truncf .bf16 s bitsLt_bf16_f32 : FVec F S8x40x11 .bf16) : FVec F S8x40x128x11 .bf16)
      shapeCasts_S8x40x128x11_S8x5120x11 : FVec F S8x5120x11 .bf16) : FVec F S8x5120x11x128 .bf16) shapeCasts_S8x5120x11x128_S8x5120x1408

/-! ## The buffers after each part of the host operations -/

def U0 : Valuation τ sig (Elt F) := fun b => m (c, b)
def UA : Valuation τ sig (Elt F) := after (hostOps0) (U0 m c)
def UB : Valuation τ sig (Elt F) := after (hostOps0_1 ++ hostOps0_2) (UA m c)
def UC : Valuation τ sig (Elt F) := after (hostOps0_3 ++ hostOps0_4) (UB m c)
def UD : Valuation τ sig (Elt F) := after (hostOps0_5 ++ hostOps0_6) (UC m c)
def UE : Valuation τ sig (Elt F) := after (hostOps0_7) (UD m c)

theorem V_eq (b : Ref sig .tc) : V m c b = UE m c (Proc.devRef .tc b) := by
  unfold V UE UD UC UB UA
  simp only [← StableHlo.after_append]
  rfl

theorem U0_arg0 : U0 m c (Proc.devRef .tc main_arg0) = dyA m c := rfl
theorem U0_arg1 : U0 m c (Proc.devRef .tc main_arg1) = gszA m c := rfl
theorem U0_arg3 : U0 m c (Proc.devRef .tc main_arg3) = wscA m c := rfl

theorem UA_main_v0 : UA m c (Proc.devRef .tc main_v0) = extf .f32 (dyA m c) bitsLt_bf16_f32 := by
  unfold UA
  after_reads_simp
  try simp -implicitDefEqProofs only [StableHlo.TRef.toBuf, StableHlo.TRef.ofBuf, cast_cast, cast_eq, id_eq]
  try rw [U0_arg0]
  try rfl

theorem UA_main_v3 : UA m c (Proc.devRef .tc main_v3) = aV (dyA m c) := by
  unfold UA
  after_reads_simp
  try simp -implicitDefEqProofs only [StableHlo.TRef.toBuf, StableHlo.TRef.ofBuf, cast_cast, cast_eq, id_eq]
  try rw [U0_arg0]
  try rfl

theorem UA_main_v6 : UA m c (Proc.devRef .tc main_v6) = powV := by
  unfold UA
  after_reads_simp
  try simp -implicitDefEqProofs only [StableHlo.TRef.toBuf, StableHlo.TRef.ofBuf, cast_cast, cast_eq, id_eq]
  try rw [U0_arg0]
  try rfl

theorem UA_main_v9 : UA m c (Proc.devRef .tc main_v9) = gtV (aV (dyA m c)) := by
  unfold UA
  after_reads_simp
  try simp -implicitDefEqProofs only [StableHlo.TRef.toBuf, StableHlo.TRef.ofBuf, cast_cast, cast_eq, id_eq]
  try rw [U0_arg0]
  try rfl

theorem UA_main_cst_2 : UA m c (Proc.devRef .tc main_cst_2) = constant S_ .f32 0x7F800000#32 := by
  unfold UA
  after_reads_simp
  try simp -implicitDefEqProofs only [StableHlo.TRef.toBuf, StableHlo.TRef.ofBuf, cast_cast, cast_eq, id_eq]
  try rw [U0_arg0]
  try rfl

theorem UA_main_arg1 : UA m c (Proc.devRef .tc main_arg1) = gszA m c := by
  unfold UA
  after_reads_simp
  try simp -implicitDefEqProofs only [StableHlo.TRef.toBuf, StableHlo.TRef.ofBuf, cast_cast, cast_eq, id_eq]
  try rw [U0_arg1]
  try rfl

theorem UA_main_arg3 : UA m c (Proc.devRef .tc main_arg3) = wscA m c := by
  unfold UA
  after_reads_simp
  try simp -implicitDefEqProofs only [StableHlo.TRef.toBuf, StableHlo.TRef.ofBuf, cast_cast, cast_eq, id_eq]
  try rw [U0_arg3]
  try rfl

theorem UB_main_v0 : UB m c (Proc.devRef .tc main_v0) = extf .f32 (dyA m c) bitsLt_bf16_f32 := by
  unfold UB
  after_reads_simp
  try simp -implicitDefEqProofs only [StableHlo.TRef.toBuf, StableHlo.TRef.ofBuf, cast_cast, cast_eq, id_eq]
  try rw [UA_main_v0]
  try rfl

theorem UB_main_v12 : UB m c (Proc.devRef .tc main_v12) = aboveV (aV (dyA m c)) := by
  unfold UB
  after_reads_simp
  try simp -implicitDefEqProofs only [StableHlo.TRef.toBuf, StableHlo.TRef.ofBuf, cast_cast, cast_eq, id_eq]
  try rw [UA_main_v9]
  try rw [UA_main_v6]
  try rw [UA_main_cst_2]
  try rfl

theorem UB_main_v14 : UB m c (Proc.devRef .tc main_v14) = cmpf .oeq (aV (dyA m c)) (broadcastInDim S6144x1 ![] bcast_S_S6144x1 (constant S_ .f32 0x00000000#32)) := by
  unfold UB
  after_reads_simp
  try simp -implicitDefEqProofs only [StableHlo.TRef.toBuf, StableHlo.TRef.ofBuf, cast_cast, cast_eq, id_eq]
  try rw [UA_main_v3]
  try rfl

theorem UB_main_cst_5 : UB m c (Proc.devRef .tc main_cst_5) = constant S_ .f32 0x3F800000#32 := by
  unfold UB
  after_reads_simp
  try simp -implicitDefEqProofs only [StableHlo.TRef.toBuf, StableHlo.TRef.ofBuf, cast_cast, cast_eq, id_eq]
  try rw [UA_main_v3]
  try rfl

theorem UB_main_arg1 : UB m c (Proc.devRef .tc main_arg1) = gszA m c := by
  unfold UB
  after_reads_simp
  try simp -implicitDefEqProofs only [StableHlo.TRef.toBuf, StableHlo.TRef.ofBuf, cast_cast, cast_eq, id_eq]
  try rw [UA_main_arg1]
  try rfl

theorem UB_main_arg3 : UB m c (Proc.devRef .tc main_arg3) = wscA m c := by
  unfold UB
  after_reads_simp
  try simp -implicitDefEqProofs only [StableHlo.TRef.toBuf, StableHlo.TRef.ofBuf, cast_cast, cast_eq, id_eq]
  try rw [UA_main_arg3]
  try rfl

theorem UC_main_v15 : UC m c (Proc.devRef .tc main_v15) = scaleV (aV (dyA m c)) := by
  unfold UC
  after_reads_simp
  try simp -implicitDefEqProofs only [StableHlo.TRef.toBuf, StableHlo.TRef.ofBuf, cast_cast, cast_eq, id_eq]
  try rw [UB_main_v12]
  try rw [UB_main_v14]
  try rw [UB_main_cst_5]
  try rfl

theorem UC_main_v19 : UC m c (Proc.devRef .tc main_v19) = mulf (extf .f32 (dyA m c) bitsLt_bf16_f32 : FVec F S6144x1408 .f32) (broadcastInDim S6144x1408 ![0, 1] bcast_S6144x1_S6144x1408_0_1 (Host.divf (broadcastInDim S6144x1 ![] bcast_S_S6144x1 (constant S_ .f32 0x3F800000#32)) (scaleV (aV (dyA m c))) : FVec F S6144x1 .f32)) := by
  unfold UC
  after_reads_simp
  try simp -implicitDefEqProofs only [StableHlo.TRef.toBuf, StableHlo.TRef.ofBuf, cast_cast, cast_eq, id_eq]
  try rw [UB_main_v12]
  try rw [UB_main_v14]
  try rw [UB_main_cst_5]
  try rw [UB_main_v0]
  try rfl

theorem UC_main_cst_7 : UC m c (Proc.devRef .tc main_cst_7) = constant S_ .f32 0xC7600000#32 := by
  unfold UC
  after_reads_simp
  try simp -implicitDefEqProofs only [StableHlo.TRef.toBuf, StableHlo.TRef.ofBuf, cast_cast, cast_eq, id_eq]
  try rw [UB_main_v0]
  try rfl

theorem UC_main_cst_8 : UC m c (Proc.devRef .tc main_cst_8) = constant S_ .f32 0x47600000#32 := by
  unfold UC
  after_reads_simp
  try simp -implicitDefEqProofs only [StableHlo.TRef.toBuf, StableHlo.TRef.ofBuf, cast_cast, cast_eq, id_eq]
  try rw [UB_main_v0]
  try rfl

theorem UC_main_arg1 : UC m c (Proc.devRef .tc main_arg1) = gszA m c := by
  unfold UC
  after_reads_simp
  try simp -implicitDefEqProofs only [StableHlo.TRef.toBuf, StableHlo.TRef.ofBuf, cast_cast, cast_eq, id_eq]
  try rw [UB_main_arg1]
  try rfl

theorem UC_main_arg3 : UC m c (Proc.devRef .tc main_arg3) = wscA m c := by
  unfold UC
  after_reads_simp
  try simp -implicitDefEqProofs only [StableHlo.TRef.toBuf, StableHlo.TRef.ofBuf, cast_cast, cast_eq, id_eq]
  try rw [UB_main_arg3]
  try rfl

theorem UD_main_v15 : UD m c (Proc.devRef .tc main_v15) = scaleV (aV (dyA m c)) := by
  unfold UD
  after_reads_simp
  try simp -implicitDefEqProofs only [StableHlo.TRef.toBuf, StableHlo.TRef.ofBuf, cast_cast, cast_eq, id_eq]
  try rw [UC_main_v15]
  try rfl

theorem UD_main_v20 : UD m c (Proc.devRef .tc main_v20) = clipV (dyA m c) := by
  unfold UD
  after_reads_simp
  try simp -implicitDefEqProofs only [StableHlo.TRef.toBuf, StableHlo.TRef.ofBuf, cast_cast, cast_eq, id_eq]
  try rw [UC_main_v19]
  try rw [UC_main_cst_7]
  try rw [UC_main_cst_8]
  try rfl

theorem UD_main_v21 : UD m c (Proc.devRef .tc main_v21) = endV (gszA m c) := by
  unfold UD
  after_reads_simp
  try simp -implicitDefEqProofs only [StableHlo.TRef.toBuf, StableHlo.TRef.ofBuf, cast_cast, cast_eq, id_eq]
  try rw [UC_main_arg1]
  try rfl

theorem UD_main_arg3 : UD m c (Proc.devRef .tc main_arg3) = wscA m c := by
  unfold UD
  after_reads_simp
  try simp -implicitDefEqProofs only [StableHlo.TRef.toBuf, StableHlo.TRef.ofBuf, cast_cast, cast_eq, id_eq]
  try rw [UC_main_arg3]
  try rfl

theorem UE_main_v15 : UE m c (Proc.devRef .tc main_v15) = scaleV (aV (dyA m c)) := by
  unfold UE
  after_reads_simp
  try simp -implicitDefEqProofs only [StableHlo.TRef.toBuf, StableHlo.TRef.ofBuf, cast_cast, cast_eq, id_eq]
  try rw [UD_main_v15]
  try rfl

theorem UE_main_v20 : UE m c (Proc.devRef .tc main_v20) = clipV (dyA m c) := by
  unfold UE
  after_reads_simp
  try simp -implicitDefEqProofs only [StableHlo.TRef.toBuf, StableHlo.TRef.ofBuf, cast_cast, cast_eq, id_eq]
  try rw [UD_main_v20]
  try rfl

theorem UE_main_v30 : UE m c (Proc.devRef .tc main_v30) = grpV (endV (gszA m c)) := by
  unfold UE
  after_reads_simp
  try simp -implicitDefEqProofs only [StableHlo.TRef.toBuf, StableHlo.TRef.ofBuf, cast_cast, cast_eq, id_eq]
  try rw [UD_main_v21]
  try rfl

theorem UE_main_v35 : UE m c (Proc.devRef .tc main_v35) = sFullV (wscA m c) := by
  unfold UE
  after_reads_simp
  try simp -implicitDefEqProofs only [StableHlo.TRef.toBuf, StableHlo.TRef.ofBuf, cast_cast, cast_eq, id_eq]
  try rw [UD_main_arg3]
  try rfl

end Cert.ReferenceIdeal.Hand

end
-- ==== Proof.K.Ref.Rows.lean ====
/- The reference's rows over the extended reals, entry by entry: the scales, the quantised activations, the weights' scales. -/
module

public import proofs.«01_k».proof.Proof.K.Ref.Prefix
public import proofs.«01_k».proof.Proof.K.Scale
public import Idealize.ShloMosaic.Lib.Pointwise
public import Idealize.ShloMosaic.Lib.KernelVsHost

@[expose] public section

set_option maxRecDepth 16384

noncomputable section

namespace Cert.ReferenceIdeal.Hand

open Cert.ReferenceIdeal.Gen
open Idealize.ShloMosaic Idealize.ShloMosaic.TcCoe
open Cert.Scale

theorem aV_apply (x : FVec Ideal S6144x1408 .bf16) (r : Fin 6144) : aV x (ix2 r 0) = amax fun k => x (ix2 r k) := by
  unfold amax
  rw [← negInf_eq]
  pointwise [aV]
  rfl

theorem lit0_eq (j : Fin 254) : lit0 j = BitVec.ofNat 32 ((j.val + 1) * 2 ^ 23) := by
  revert j; decide

theorem powV_apply (j : Fin 254) : (powV (F := Ideal)) (ix2 0 j) = Scale.T (j.val + 1) := by
  have h : (powV (F := Ideal)) (ix2 0 j) = Ideal.ofBits .f32 (lit0 (S254.rowMajor (ix1 j))) := by
    pointwise [powV]
  rw [h]
  unfold Scale.T
  rw [← lit0_eq j]
  have e : S254.rowMajor (ix1 j) = j := by
    apply Fin.ext
    exact Shape.rowMajor_val_one _
  rw [e]

theorem aboveV_apply (a : FVec Ideal S6144x1 .f32) (r : Fin 6144) : aboveV a (ix2 r 0) = above (a (ix2 r 0) * cP) := by
  have hp := powV_apply
  unfold above cP
  rw [← posInf_eq]
  simp only [← powV_apply]
  pointwise [aboveV, gtV]

theorem scaleV_apply (a : FVec Ideal S6144x1 .f32) (r : Fin 6144) : scaleV a (ix2 r 0) = rScale (a (ix2 r 0)) := by
  unfold rScale
  rw [← aboveV_apply]
  pointwise [scaleV]

/-- The quantised activations, the scales given. -/
def clipU (x : FVec Ideal S6144x1408 .bf16) (v : FVec Ideal S6144x1 .f32) : FVec Ideal S6144x1408 .f32 :=
  minimumf (broadcastInDim S6144x1408 ![] bcast_S_S6144x1408 (constant S_ .f32 0x47600000#32))
    (maximumf (broadcastInDim S6144x1408 ![] bcast_S_S6144x1408 (constant S_ .f32 0xC7600000#32))
      (mulf (extf .f32 x bitsLt_bf16_f32 : FVec Ideal S6144x1408 .f32) (broadcastInDim S6144x1408 ![0, 1] bcast_S6144x1_S6144x1408_0_1
        (Host.divf (broadcastInDim S6144x1 ![] bcast_S_S6144x1 (constant S_ .f32 0x3F800000#32)) v : FVec Ideal S6144x1 .f32))))

theorem clipU_apply (x : FVec Ideal S6144x1408 .bf16) (v : FVec Ideal S6144x1 .f32) (r : Fin 6144) (k : Fin 1408) :
    clipU x v (ix2 r k) = clip (x (ix2 r k) * Ideal.div 1 (v (ix2 r 0))) := by
  unfold clip
  pointwise [clipU]

theorem clipV_apply (x : FVec Ideal S6144x1408 .bf16) (r : Fin 6144) (k : Fin 1408) :
    clipV x (ix2 r k) = clip (x (ix2 r k) * Ideal.div 1 (rScale (amax fun k => x (ix2 r k)))) := by
  have e : clipV x = clipU x (scaleV (aV x)) := by unfold clipV clipU; rfl
  rw [e, clipU_apply, scaleV_apply, aV_apply]

/-- A row's scale repeated over a block, the two axes in turn. -/
theorem rep1_apply (s : FVec Ideal S8x40x11 .bf16) (e : Fin 8) (d : Fin 5120) (o : Fin 11) :
    (shapeCast S8x5120x11 (broadcastInDim S8x40x128x11 ![0, 1, 3] bcast_S8x40x11_S8x40x128x11_0_1_3 s : FVec Ideal S8x40x128x11 .bf16) shapeCasts_S8x40x128x11_S8x5120x11 : FVec Ideal S8x5120x11 .bf16) (ix3 e d o)
      = s (ix3 e ⟨d.val / 128, by omega⟩ o) := by
  refine (shapeCast_apply _ _ _ (ix4 e ⟨d.val / 128, by omega⟩ ⟨d.val % 128, by omega⟩ o) ?_).trans ?_
  · refine (Shape.rowMajor_val_four _).trans (Eq.trans ?_ (Shape.rowMajor_val_three _).symm)
    show ((e.val * 40 + d.val / 128) * 128 + d.val % 128) * 11 + o.val = (e.val * 5120 + d.val) * 11 + o.val
    omega
  · pointwise

theorem rep2_apply (s : FVec Ideal S8x5120x11 .bf16) (e : Fin 8) (d : Fin 5120) (k : Fin 1408) :
    (shapeCast S8x5120x1408 (broadcastInDim S8x5120x11x128 ![0, 1, 2] bcast_S8x5120x11_S8x5120x11x128_0_1_2 s : FVec Ideal S8x5120x11x128 .bf16) shapeCasts_S8x5120x11x128_S8x5120x1408 : FVec Ideal S8x5120x1408 .bf16) (ix3 e d k)
      = s (ix3 e d ⟨k.val / 128, by omega⟩) := by
  refine (shapeCast_apply _ _ _ (ix4 e d ⟨k.val / 128, by omega⟩ ⟨k.val % 128, by omega⟩) ?_).trans ?_
  · refine (Shape.rowMajor_val_four _).trans (Eq.trans ?_ (Shape.rowMajor_val_three _).symm)
    show ((e.val * 5120 + d.val) * 11 + k.val / 128) * 128 + k.val % 128 = (e.val * 5120 + d.val) * 1408 + k.val
    omega
  · pointwise

theorem sFullV_apply (s : FVec Ideal S8x40x11 .f32) (e : Fin 8) (d : Fin 5120) (k : Fin 1408) :
    sFullV s (ix3 e d k) = s (ix3 e ⟨d.val / 128, by omega⟩ ⟨k.val / 128, by omega⟩) := by
  unfold sFullV
  rw [rep2_apply, rep1_apply]
  rfl

end Cert.ReferenceIdeal.Hand

end
-- ==== Proof.K.Ref.Body.lean ====
/- The reference's region over the extended reals, entry by entry: of the eight products the row's own group's. -/
module

public import proofs.«01_k».proof.Proof.K.Ref.Rows
public import Idealize.ShloMosaic.Lib.Pipeline.ValueKit.Tiles

@[expose] public section

set_option maxRecDepth 16384

noncomputable section

namespace Cert.ReferenceIdeal.Hand

open Cert.ReferenceIdeal.Gen
open Idealize.ShloMosaic Idealize.ShloMosaic.TcCoe
open Cert.Scale

/-- One group's product, laid over what the earlier groups left. -/
def layer (x : FVec Ideal S6144x1408 .bf16) (g : IVec S6144x1 32) (e : BitVec 32) (w : Vec Ideal S1x5120x1408 .fp8e4m3) (s : Vec Ideal S1x5120x1408 .bf16)
    (acc : FVec Ideal S6144x5120 .f32) : FVec Ideal S6144x5120 .f32 :=
  select (broadcastTo S6144x5120 (shapeCast S6144x1 (cmpi .eq g (broadcast S6144x1 e)) shapeCasts_S6144x1_S6144x1) broadcasts_S6144x1_S6144x5120)
    (matmul dot_S6144x1408_S5120x1408_S6144x5120_1_1_0_0_n_n none x
      (mulf (extf .bf16 (shapeCast S5120x1408 w shapeCasts_S1x5120x1408_S5120x1408 : FVec Ideal S5120x1408 .fp8e4m3) bitsLt_fp8e4m3_bf16)
        (shapeCast S5120x1408 s shapeCasts_S1x5120x1408_S5120x1408 : FVec Ideal S5120x1408 .bf16)) (constant S6144x5120 .f32 0x00000000#32)) acc

theorem layer_apply (x : FVec Ideal S6144x1408 .bf16) (g : IVec S6144x1 32) (e : BitVec 32) (w : Vec Ideal S1x5120x1408 .fp8e4m3) (s : Vec Ideal S1x5120x1408 .bf16)
    (acc : FVec Ideal S6144x5120 .f32) (r : Fin 6144) (d : Fin 5120) :
    layer x g e w s acc (ix2 r d) = Scalar.select (IntOp.cmpi .eq (g (ix2 r 0)) e)
      (∑ k : Fin 1408, x (ix2 r k) * (w (ix3 0 d k) * s (ix3 0 d k)) : EReal) (acc (ix2 r d)) := by
  pointwise [layer]

/-- The layers of all eight groups. -/
def layers (x : FVec Ideal S6144x1408 .bf16) (g : IVec S6144x1 32) (x2 : Vec Ideal S8x5120x1408 .fp8e4m3) (x3 : Vec Ideal S8x5120x1408 .bf16) : FVec Ideal S6144x5120 .f32 :=
  layer x g 7#32 (View.ld x2 r0_9) (View.ld x3 r0_9) (layer x g 6#32 (View.ld x2 r0_8) (View.ld x3 r0_8) (layer x g 5#32 (View.ld x2 r0_7) (View.ld x3 r0_7)
    (layer x g 4#32 (View.ld x2 r0_6) (View.ld x3 r0_6) (layer x g 3#32 (View.ld x2 r0_5) (View.ld x3 r0_5) (layer x g 2#32 (View.ld x2 r0_4) (View.ld x3 r0_4)
      (layer x g 1#32 (View.ld x2 r0_3) (View.ld x3 r0_3) (layer x g 0#32 (View.ld x2 r0_2) (View.ld x3 r0_2) (broadcast S6144x5120 (Scalar.ofBits .f32 0x00000000#32)))))))))

theorem out_eq (x0 : Vec Ideal S6144x1408 .f32) (x1 : Vec Ideal S6144x1 .i32) (x2 : Vec Ideal S8x5120x1408 .fp8e4m3) (x3 : Vec Ideal S8x5120x1408 .bf16) (x4 : Vec Ideal S6144x1 .f32) :
    out0_5 x0 x1 x2 x3 x4 = truncf .bf16 (mulf (layers (k0_pay1 x0) (k0_pay2 x1) x2 x3)
      (broadcastTo S6144x5120 (shapeCast S6144x1 x4 shapeCasts_S6144x1_S6144x1 : FVec Ideal S6144x1 .f32) broadcasts_S6144x1_S6144x5120)) bitsLt_bf16_f32 := by
  have e0 : View.ld x0 r0_0 = x0 := View.ld_unit_lit _ x0 (fun a => by fin_cases a <;> rfl)
  have e1 : View.ld x1 r0_1 = x1 := View.ld_unit_lit _ x1 (fun a => by fin_cases a <;> rfl)
  have e4 : View.ld x4 r0_1 = x4 := View.ld_unit_lit _ x4 (fun a => by fin_cases a <;> rfl)
  unfold out0_5 k0_pay9 k0_pay8
  refine (View.canon_cons_unit_lit _ _ _ (fun a => by fin_cases a <;> rfl)).trans ?_
  rw [e0, e1, e4]
  rfl

theorem ld_apply (n : Fin 8) {e : EltTy} (X : Vec Ideal S8x5120x1408 e) (inb : ∀ a, (![n.val, 0, 0] : Fin 3 → ℕ) a + S1x5120x1408.size a ≤ S8x5120x1408.size a) (d : Fin 5120) (k : Fin 1408) :
    View.ld X (Rect.unit (s := S8x5120x1408) ![n.val, 0, 0] S1x5120x1408.size inb) (ix3 (0 : Fin 1) d k) = X (ix3 n d k) := by
  refine View.ld_unit_apply_of X _ _ _ _ _ ?_
  intro b
  fin_cases b
  · rfl
  · show d.val = 0 + d.val; omega
  · show k.val = 0 + k.val; omega

theorem layer_hit (x : FVec Ideal S6144x1408 .bf16) (g : IVec S6144x1 32) (e : BitVec 32) (w : Vec Ideal S1x5120x1408 .fp8e4m3) (s : Vec Ideal S1x5120x1408 .bf16)
    (acc : FVec Ideal S6144x5120 .f32) (r : Fin 6144) (d : Fin 5120) (h : g (ix2 r 0) = e) :
    layer x g e w s acc (ix2 r d) = ∑ k : Fin 1408, x (ix2 r k) * (w (ix3 0 d k) * s (ix3 0 d k) : EReal) := by
  rw [layer_apply, h]
  show (if BitVec.ofBool (e == e) = 1 then _ else _) = _
  rw [beq_self_eq_true]
  rfl

theorem layer_miss (x : FVec Ideal S6144x1408 .bf16) (g : IVec S6144x1 32) (e : BitVec 32) (w : Vec Ideal S1x5120x1408 .fp8e4m3) (s : Vec Ideal S1x5120x1408 .bf16)
    (acc : FVec Ideal S6144x5120 .f32) (r : Fin 6144) (d : Fin 5120) (h : g (ix2 r 0) ≠ e) :
    layer x g e w s acc (ix2 r d) = acc (ix2 r d) := by
  rw [layer_apply]
  show (if BitVec.ofBool (g (ix2 r 0) == e) = 1 then _ else _) = _
  rw [beq_false_of_ne h]
  rfl

/-! ## The layers at a row of each group -/

theorem layers_0 (x : FVec Ideal S6144x1408 .bf16) (g : IVec S6144x1 32) (x2 : Vec Ideal S8x5120x1408 .fp8e4m3) (x3 : Vec Ideal S8x5120x1408 .bf16)
    (r : Fin 6144) (d : Fin 5120) (hg : g (ix2 r 0) = 0#32) :
    layers x g x2 x3 (ix2 r d) = ∑ k : Fin 1408, x (ix2 r k) * (x2 (ix3 0 d k) * x3 (ix3 0 d k) : EReal) := by
  unfold layers
  rw [layer_miss _ _ _ _ _ _ _ _ (by rw [hg]; decide)]
  rw [layer_miss _ _ _ _ _ _ _ _ (by rw [hg]; decide)]
  rw [layer_miss _ _ _ _ _ _ _ _ (by rw [hg]; decide)]
  rw [layer_miss _ _ _ _ _ _ _ _ (by rw [hg]; decide)]
  rw [layer_miss _ _ _ _ _ _ _ _ (by rw [hg]; decide)]
  rw [layer_miss _ _ _ _ _ _ _ _ (by rw [hg]; decide)]
  rw [layer_miss _ _ _ _ _ _ _ _ (by rw [hg]; decide)]
  rw [layer_hit _ _ _ _ _ _ _ _ hg]
  exact Finset.sum_congr rfl fun k _ => congrArg₂ (fun a b : EReal => (x (ix2 r k) * (a * b) : EReal))
    (ld_apply 0 x2 inb_S8x5120x1408_S1x5120x1408_0_0_0 d k) (ld_apply 0 x3 inb_S8x5120x1408_S1x5120x1408_0_0_0 d k)

theorem layers_1 (x : FVec Ideal S6144x1408 .bf16) (g : IVec S6144x1 32) (x2 : Vec Ideal S8x5120x1408 .fp8e4m3) (x3 : Vec Ideal S8x5120x1408 .bf16)
    (r : Fin 6144) (d : Fin 5120) (hg : g (ix2 r 0) = 1#32) :
    layers x g x2 x3 (ix2 r d) = ∑ k : Fin 1408, x (ix2 r k) * (x2 (ix3 1 d k) * x3 (ix3 1 d k) : EReal) := by
  unfold layers
  rw [layer_miss _ _ _ _ _ _ _ _ (by rw [hg]; decide)]
  rw [layer_miss _ _ _ _ _ _ _ _ (by rw [hg]; decide)]
  rw [layer_miss _ _ _ _ _ _ _ _ (by rw [hg]; decide)]
  rw [layer_miss _ _ _ _ _ _ _ _ (by rw [hg]; decide)]
  rw [layer_miss _ _ _ _ _ _ _ _ (by rw [hg]; decide)]
  rw [layer_miss _ _ _ _ _ _ _ _ (by rw [hg]; decide)]
  rw [layer_hit _ _ _ _ _ _ _ _ hg]
  exact Finset.sum_congr rfl fun k _ => congrArg₂ (fun a b : EReal => (x (ix2 r k) * (a * b) : EReal))
    (ld_apply 1 x2 inb_S8x5120x1408_S1x5120x1408_1_0_0 d k) (ld_apply 1 x3 inb_S8x5120x1408_S1x5120x1408_1_0_0 d k)

theorem layers_2 (x : FVec Ideal S6144x1408 .bf16) (g : IVec S6144x1 32) (x2 : Vec Ideal S8x5120x1408 .fp8e4m3) (x3 : Vec Ideal S8x5120x1408 .bf16)
    (r : Fin 6144) (d : Fin 5120) (hg : g (ix2 r 0) = 2#32) :
    layers x g x2 x3 (ix2 r d) = ∑ k : Fin 1408, x (ix2 r k) * (x2 (ix3 2 d k) * x3 (ix3 2 d k) : EReal) := by
  unfold layers
  rw [layer_miss _ _ _ _ _ _ _ _ (by rw [hg]; decide)]
  rw [layer_miss _ _ _ _ _ _ _ _ (by rw [hg]; decide)]
  rw [layer_miss _ _ _ _ _ _ _ _ (by rw [hg]; decide)]
  rw [layer_miss _ _ _ _ _ _ _ _ (by rw [hg]; decide)]
  rw [layer_miss _ _ _ _ _ _ _ _ (by rw [hg]; decide)]
  rw [layer_hit _ _ _ _ _ _ _ _ hg]
  exact Finset.sum_congr rfl fun k _ => congrArg₂ (fun a b : EReal => (x (ix2 r k) * (a * b) : EReal))
    (ld_apply 2 x2 inb_S8x5120x1408_S1x5120x1408_2_0_0 d k) (ld_apply 2 x3 inb_S8x5120x1408_S1x5120x1408_2_0_0 d k)

theorem layers_3 (x : FVec Ideal S6144x1408 .bf16) (g : IVec S6144x1 32) (x2 : Vec Ideal S8x5120x1408 .fp8e4m3) (x3 : Vec Ideal S8x5120x1408 .bf16)
    (r : Fin 6144) (d : Fin 5120) (hg : g (ix2 r 0) = 3#32) :
    layers x g x2 x3 (ix2 r d) = ∑ k : Fin 1408, x (ix2 r k) * (x2 (ix3 3 d k) * x3 (ix3 3 d k) : EReal) := by
  unfold layers
  rw [layer_miss _ _ _ _ _ _ _ _ (by rw [hg]; decide)]
  rw [layer_miss _ _ _ _ _ _ _ _ (by rw [hg]; decide)]
  rw [layer_miss _ _ _ _ _ _ _ _ (by rw [hg]; decide)]
  rw [layer_miss _ _ _ _ _ _ _ _ (by rw [hg]; decide)]
  rw [layer_hit _ _ _ _ _ _ _ _ hg]
  exact Finset.sum_congr rfl fun k _ => congrArg₂ (fun a b : EReal => (x (ix2 r k) * (a * b) : EReal))
    (ld_apply 3 x2 inb_S8x5120x1408_S1x5120x1408_3_0_0 d k) (ld_apply 3 x3 inb_S8x5120x1408_S1x5120x1408_3_0_0 d k)

theorem layers_4 (x : FVec Ideal S6144x1408 .bf16) (g : IVec S6144x1 32) (x2 : Vec Ideal S8x5120x1408 .fp8e4m3) (x3 : Vec Ideal S8x5120x1408 .bf16)
    (r : Fin 6144) (d : Fin 5120) (hg : g (ix2 r 0) = 4#32) :
    layers x g x2 x3 (ix2 r d) = ∑ k : Fin 1408, x (ix2 r k) * (x2 (ix3 4 d k) * x3 (ix3 4 d k) : EReal) := by
  unfold layers
  rw [layer_miss _ _ _ _ _ _ _ _ (by rw [hg]; decide)]
  rw [layer_miss _ _ _ _ _ _ _ _ (by rw [hg]; decide)]
  rw [layer_miss _ _ _ _ _ _ _ _ (by rw [hg]; decide)]
  rw [layer_hit _ _ _ _ _ _ _ _ hg]
  exact Finset.sum_congr rfl fun k _ => congrArg₂ (fun a b : EReal => (x (ix2 r k) * (a * b) : EReal))
    (ld_apply 4 x2 inb_S8x5120x1408_S1x5120x1408_4_0_0 d k) (ld_apply 4 x3 inb_S8x5120x1408_S1x5120x1408_4_0_0 d k)

theorem layers_5 (x : FVec Ideal S6144x1408 .bf16) (g : IVec S6144x1 32) (x2 : Vec Ideal S8x5120x1408 .fp8e4m3) (x3 : Vec Ideal S8x5120x1408 .bf16)
    (r : Fin 6144) (d : Fin 5120) (hg : g (ix2 r 0) = 5#32) :
    layers x g x2 x3 (ix2 r d) = ∑ k : Fin 1408, x (ix2 r k) * (x2 (ix3 5 d k) * x3 (ix3 5 d k) : EReal) := by
  unfold layers
  rw [layer_miss _ _ _ _ _ _ _ _ (by rw [hg]; decide)]
  rw [layer_miss _ _ _ _ _ _ _ _ (by rw [hg]; decide)]
  rw [layer_hit _ _ _ _ _ _ _ _ hg]
  exact Finset.sum_congr rfl fun k _ => congrArg₂ (fun a b : EReal => (x (ix2 r k) * (a * b) : EReal))
    (ld_apply 5 x2 inb_S8x5120x1408_S1x5120x1408_5_0_0 d k) (ld_apply 5 x3 inb_S8x5120x1408_S1x5120x1408_5_0_0 d k)

theorem layers_6 (x : FVec Ideal S6144x1408 .bf16) (g : IVec S6144x1 32) (x2 : Vec Ideal S8x5120x1408 .fp8e4m3) (x3 : Vec Ideal S8x5120x1408 .bf16)
    (r : Fin 6144) (d : Fin 5120) (hg : g (ix2 r 0) = 6#32) :
    layers x g x2 x3 (ix2 r d) = ∑ k : Fin 1408, x (ix2 r k) * (x2 (ix3 6 d k) * x3 (ix3 6 d k) : EReal) := by
  unfold layers
  rw [layer_miss _ _ _ _ _ _ _ _ (by rw [hg]; decide)]
  rw [layer_hit _ _ _ _ _ _ _ _ hg]
  exact Finset.sum_congr rfl fun k _ => congrArg₂ (fun a b : EReal => (x (ix2 r k) * (a * b) : EReal))
    (ld_apply 6 x2 inb_S8x5120x1408_S1x5120x1408_6_0_0 d k) (ld_apply 6 x3 inb_S8x5120x1408_S1x5120x1408_6_0_0 d k)

theorem layers_7 (x : FVec Ideal S6144x1408 .bf16) (g : IVec S6144x1 32) (x2 : Vec Ideal S8x5120x1408 .fp8e4m3) (x3 : Vec Ideal S8x5120x1408 .bf16)
    (r : Fin 6144) (d : Fin 5120) (hg : g (ix2 r 0) = 7#32) :
    layers x g x2 x3 (ix2 r d) = ∑ k : Fin 1408, x (ix2 r k) * (x2 (ix3 7 d k) * x3 (ix3 7 d k) : EReal) := by
  unfold layers
  rw [layer_hit _ _ _ _ _ _ _ _ hg]
  exact Finset.sum_congr rfl fun k _ => congrArg₂ (fun a b : EReal => (x (ix2 r k) * (a * b) : EReal))
    (ld_apply 7 x2 inb_S8x5120x1408_S1x5120x1408_7_0_0 d k) (ld_apply 7 x3 inb_S8x5120x1408_S1x5120x1408_7_0_0 d k)

/-- The layers at a row of group `n`. -/
theorem layers_apply (x : FVec Ideal S6144x1408 .bf16) (g : IVec S6144x1 32) (x2 : Vec Ideal S8x5120x1408 .fp8e4m3) (x3 : Vec Ideal S8x5120x1408 .bf16)
    (r : Fin 6144) (d : Fin 5120) (n : Fin 8) (hg : g (ix2 r 0) = BitVec.ofNat 32 n.val) :
    layers x g x2 x3 (ix2 r d) = ∑ k : Fin 1408, x (ix2 r k) * (x2 (ix3 n d k) * x3 (ix3 n d k) : EReal) := by
  match n, hg with
  | 0, hg => exact layers_0 x g x2 x3 r d hg
  | 1, hg => exact layers_1 x g x2 x3 r d hg
  | 2, hg => exact layers_2 x g x2 x3 r d hg
  | 3, hg => exact layers_3 x g x2 x3 r d hg
  | 4, hg => exact layers_4 x g x2 x3 r d hg
  | 5, hg => exact layers_5 x g x2 x3 r d hg
  | 6, hg => exact layers_6 x g x2 x3 r d hg
  | 7, hg => exact layers_7 x g x2 x3 r d hg

/-- The region's result at a row of group `n`. -/
theorem out_apply (x0 : Vec Ideal S6144x1408 .f32) (x1 : Vec Ideal S6144x1 .i32) (x2 : Vec Ideal S8x5120x1408 .fp8e4m3) (x3 : Vec Ideal S8x5120x1408 .bf16) (x4 : Vec Ideal S6144x1 .f32)
    (r : Fin 6144) (d : Fin 5120) (n : Fin 8) (hg : x1 (ix2 r 0) = BitVec.ofNat 32 n.val) :
    out0_5 x0 x1 x2 x3 x4 (ix2 r d) = ((∑ k : Fin 1408, x0 (ix2 r k) * (x2 (ix3 n d k) * x3 (ix3 n d k))) * x4 (ix2 r 0) : EReal) := by
  have h2 : k0_pay2 x1 (ix2 r 0) = BitVec.ofNat 32 n.val := by
    rw [← hg]; pointwise [k0_pay2]
  have h1 : ∀ k, k0_pay1 x0 (ix2 r k) = x0 (ix2 r k) := fun k => by pointwise [k0_pay1]
  have h := layers_apply (k0_pay1 x0) (k0_pay2 x1) x2 x3 r d n h2
  simp only [h1] at h
  rw [out_eq, ← h]
  generalize layers (k0_pay1 x0) (k0_pay2 x1) x2 x3 = l
  pointwise

end Cert.ReferenceIdeal.Hand

end
-- ==== Proof.K.Ref.Group.lean ====
/- The rows' groups, as the reference counts them: of the groups' ends, how many are at most the row. -/
module

public import proofs.«01_k».proof.Proof.K.Ref.Rows
public import proofs.«01_k».proof.Proof.K.Words

@[expose] public section

set_option maxRecDepth 16384

noncomputable section

namespace Cert.Sched

open Idealize.ShloMosaic Idealize.ShloMosaic.Routing Idealize.ShloMosaic.WordCmp

/-- The sum over the columns of a widened mask counts, at a row, the columns whose bit is set there. -/
theorem reduce_count_across {b N : Nat} (hN : N < 2 ^ 32) (msk : IVec (shape2 b N) 1) (hw : 1 < 32) (h : (shape2 b N).ReducesTo [1] (shape1 b))
    (hu : 0 < shape0.numel) (q : Fin b) (Q : Nat → Prop) [DecidablePred Q] (hQ : ∀ j : Fin N, msk (ValueIdx.ix2 q j) = 1#1 ↔ Q j.val) :
    Host.reduce IntOp.addi (extui 32 msk hw) (constantI shape0 32 0#32) h hu (ValueIdx.ix1 q) = BitVec.ofNat 32 (Nat.count Q N) := by
  classical
  have hval : ∀ i, (extui 32 msk hw i).toNat = if msk i = 1#1 then 1 else 0 := fun i => StableHlo.Predicate.toNat_setWidth_bit (msk i)
  have hdrop : ∀ i : (shape2 b N).Idx, h.drop i = ValueIdx.ix1 q ↔ i 0 = q := by
    intro i
    have hv0 : (h.drop i 0 : Nat) = i 0 := Shape.ReducesTo.drop_apply_val h i 0
    constructor
    · intro e
      rw [e] at hv0
      exact Fin.ext hv0.symm
    · rintro e1
      funext c
      match c with
      | ⟨0, _⟩ => exact Fin.ext (hv0.trans (congrArg Fin.val e1))
  have hback : ∀ i : (shape2 b N).Idx, i 0 = q → ValueIdx.ix2 q (i 1) = i := fun i hi => by
    funext c
    match c with
    | ⟨0, _⟩ => exact hi.symm
    | ⟨1, _⟩ => rfl
  have hsum : ∑ i ∈ Finset.univ.filter (fun i : (shape2 b N).Idx => h.drop i = ValueIdx.ix1 q), (extui 32 msk hw i).toNat
      = (Finset.univ.filter (fun j : Fin N => msk (ValueIdx.ix2 q j) = 1#1)).card := by
    rw [Finset.card_filter]
    refine Finset.sum_bij' (fun i _ => i 1) (fun j _ => ValueIdx.ix2 q j) (fun _ _ => Finset.mem_univ _)
      (fun j _ => Finset.mem_filter.2 ⟨Finset.mem_univ _, (hdrop _).2 rfl⟩)
      (fun i hi => hback i ((hdrop i).1 (Finset.mem_filter.1 hi).2)) (fun _ _ => rfl) ?_
    intro i hi
    rw [hval]
    exact (congrArg (fun x => if msk x = 1#1 then 1 else 0) (hback i ((hdrop i).1 (Finset.mem_filter.1 hi).2))).symm
  apply BitVec.eq_of_toNat_eq
  rw [Host.reduce_eq_fold]
  show (Finset.fold IntOp.addi 0#32 (extui 32 msk hw) (Finset.univ.filter fun i : (shape2 b N).Idx => h.drop i = ValueIdx.ix1 q)).toNat = _
  rw [StableHlo.Predicate.toNat_fold_addi _ _ (by rw [hsum]; exact lt_of_le_of_lt (Finset.card_le_univ _) (by simpa using hN)), hsum, BitVec.toNat_ofNat,
    Nat.mod_eq_of_lt (Nat.lt_of_le_of_lt (Nat.count_le _) hN), ← card_filter_fin N Q]
  exact congrArg Finset.card (Finset.filter_congr fun j _ => hQ j)

end Cert.Sched

namespace Cert.ReferenceIdeal.Hand

open Cert.ReferenceIdeal.Gen
open Idealize.ShloMosaic Idealize.ShloMosaic.TcCoe

/-- The mask the reference counts. -/
def mskV (e : IVec S8 32) : IVec S6144x8 1 :=
  cmpi .sge (broadcastInDim S6144x8 ![0, 1] bcast_S6144x1_S6144x8_0_1 (broadcastInDim S6144x1 ![0] bcast_S6144_S6144x1_0 (iotaInDim S6144 32 0)))
      (broadcastInDim S6144x8 ![0, 1] bcast_S1x8_S6144x8_0_1 (broadcastInDim S1x8 ![1] bcast_S8_S1x8_1 e))

theorem mskV_apply (e : IVec S8 32) (r : Fin 6144) (j : Fin 8) : mskV e (ix2 r j) = IntOp.cmpi .sge (BitVec.ofNat 32 r.val) (e (ix1 j)) := by
  pointwise [mskV]

def cntV (M : IVec S6144x8 1) : IVec S6144 32 :=
  Host.reduce IntOp.addi (extui 32 M natLt_1_32 : IVec S6144x8 32) (constantI S_ 32 0#32) reducesTo_S6144x8_S6144_d1 h_S_

theorem grpV_cnt (e : IVec S8 32) (r : Fin 6144) : grpV e (ix2 r 0) = cntV (mskV e) (ix1 r) := by
  have : grpV e = broadcastInDim S6144x1 ![0] bcast_S6144_S6144x1_0 (cntV (mskV e)) := rfl
  rw [this]
  generalize cntV (mskV e) = v
  pointwise

/-- The row's group. -/
theorem grpV_apply (z : IVec S8 32) (f : ℕ → ℕ) (hz : Sched.Holds z f) (hf : Sched.En f 7 = 6144) (r : Fin 6144) :
    grpV (endV z) (ix2 r 0) = BitVec.ofNat 32 (Sched.rowGr f r.val) := by
  have he : Sched.Holds (endV z) (Sched.En f) := Sched.holds_cumsum hz _ rfl _ _
  rw [grpV_cnt, ix1_eq_valueIdx]
  unfold cntV
  refine Sched.reduce_count_across (N := 8) (by norm_num) (mskV (endV z)) _ _ _ r (fun j => Sched.En f j ≤ r.val) (fun j => ?_)
  have h1 := mskV_apply (endV z) r j
  rw [ix2_eq_valueIdx, ix1_eq_valueIdx, he j] at h1
  rw [h1]
  have hb : Sched.En f j.val ≤ 6144 := Sched.En_le hf _ j.isLt
  have hr := r.isLt
  exact WordCmp.cmpi_sge_ofNat_eq_one_iff (by omega) (by omega)

end Cert.ReferenceIdeal.Hand
-- ==== Proof.K.Ref.Value.lean ====
/- The reference's result, entry by entry, of the argument arrays. -/
module

public import proofs.«01_k».proof.Proof.K.Ref.Body
public import proofs.«01_k».proof.Proof.K.Ref.Group
public import proofs.«01_k».proof.Proof.K.Out
public import Idealize.ShloMosaic.Lib.Pipeline.ValueKit

@[expose] public section

set_option maxRecDepth 16384

noncomputable section

namespace Cert.ReferenceIdeal.Hand

open Cert.ReferenceIdeal.Gen
open Idealize.ShloMosaic Idealize.ShloMosaic.TcCoe
open Cert.Scale

variable (m : (ℓ : Loc nD τ sig) → Buf (Elt Ideal) ℓ) (c : Dev nD) (t : Fin cfg0.N)

/-! ## The windows' blocks: whole arrays -/

theorem read_0 (X : Vec Ideal S6144x1408 .f32) : ((cfg0.win 0).blk t).view.read (Elt Ideal) X = X := by
  have e : ∀ t : Fin cfg0.N, (cfg0.win 0).index t = ![0, 0] := (by decide +kernel : ∀ t : Fin grid0.N, win0_0.index t = ![0, 0])
  funext y
  refine congrArg X (funext fun a => Fin.ext ?_)
  match a with
    | ⟨0, _⟩ => exact Pipeline.Window.rect_emb_val_of_index_zero _ t 0 (congrFun (e t) 0) y
    | ⟨1, _⟩ => exact Pipeline.Window.rect_emb_val_of_index_zero _ t 1 (congrFun (e t) 1) y

theorem read_1 (X : Vec Ideal S6144x1 .i32) : ((cfg0.win 1).blk t).view.read (Elt Ideal) X = X := by
  have e : ∀ t : Fin cfg0.N, (cfg0.win 1).index t = ![0, 0] := (by decide +kernel : ∀ t : Fin grid0.N, win0_1.index t = ![0, 0])
  funext y
  refine congrArg X (funext fun a => Fin.ext ?_)
  match a with
    | ⟨0, _⟩ => exact Pipeline.Window.rect_emb_val_of_index_zero _ t 0 (congrFun (e t) 0) y
    | ⟨1, _⟩ => exact Pipeline.Window.rect_emb_val_of_index_zero _ t 1 (congrFun (e t) 1) y

theorem read_2 (X : Vec Ideal S8x5120x1408 .fp8e4m3) : ((cfg0.win 2).blk t).view.read (Elt Ideal) X = X := by
  have e : ∀ t : Fin cfg0.N, (cfg0.win 2).index t = ![0, 0, 0] := (by decide +kernel : ∀ t : Fin grid0.N, win0_2.index t = ![0, 0, 0])
  funext y
  refine congrArg X (funext fun a => Fin.ext ?_)
  match a with
    | ⟨0, _⟩ => exact Pipeline.Window.rect_emb_val_of_index_zero _ t 0 (congrFun (e t) 0) y
    | ⟨1, _⟩ => exact Pipeline.Window.rect_emb_val_of_index_zero _ t 1 (congrFun (e t) 1) y
    | ⟨2, _⟩ => exact Pipeline.Window.rect_emb_val_of_index_zero _ t 2 (congrFun (e t) 2) y

theorem read_3 (X : Vec Ideal S8x5120x1408 .bf16) : ((cfg0.win 3).blk t).view.read (Elt Ideal) X = X := by
  have e : ∀ t : Fin cfg0.N, (cfg0.win 3).index t = ![0, 0, 0] := (by decide +kernel : ∀ t : Fin grid0.N, win0_3.index t = ![0, 0, 0])
  funext y
  refine congrArg X (funext fun a => Fin.ext ?_)
  match a with
    | ⟨0, _⟩ => exact Pipeline.Window.rect_emb_val_of_index_zero _ t 0 (congrFun (e t) 0) y
    | ⟨1, _⟩ => exact Pipeline.Window.rect_emb_val_of_index_zero _ t 1 (congrFun (e t) 1) y
    | ⟨2, _⟩ => exact Pipeline.Window.rect_emb_val_of_index_zero _ t 2 (congrFun (e t) 2) y

theorem read_4 (X : Vec Ideal S6144x1 .f32) : ((cfg0.win 4).blk t).view.read (Elt Ideal) X = X := by
  have e : ∀ t : Fin cfg0.N, (cfg0.win 4).index t = ![0, 0] := (by decide +kernel : ∀ t : Fin grid0.N, win0_4.index t = ![0, 0])
  funext y
  refine congrArg X (funext fun a => Fin.ext ?_)
  match a with
    | ⟨0, _⟩ => exact Pipeline.Window.rect_emb_val_of_index_zero _ t 0 (congrFun (e t) 0) y
    | ⟨1, _⟩ => exact Pipeline.Window.rect_emb_val_of_index_zero _ t 1 (congrFun (e t) 1) y

theorem iblk_0 : iblk m c 0 t = clipV (dyA m c) :=
  (read_0 t (V m c main_v20)).trans ((V_eq m c main_v20).trans (UE_main_v20 m c))

theorem iblk_1 : iblk m c 1 t = grpV (endV (gszA m c)) :=
  (read_1 t (V m c main_v30)).trans ((V_eq m c main_v30).trans (UE_main_v30 m c))

theorem iblk_2 : iblk m c 2 t = m ((c : Thread nD τ).loc main_arg2) :=
  (read_2 t (V m c main_arg2)).trans (V_main_arg2 m c)

theorem iblk_3 : iblk m c 3 t = sFullV (wscA m c) :=
  (read_3 t (V m c main_v35)).trans ((V_eq m c main_v35).trans (UE_main_v35 m c))

theorem iblk_4 : iblk m c 4 t = scaleV (aV (dyA m c)) :=
  (read_4 t (V m c main_v15)).trans ((V_eq m c main_v15).trans (UE_main_v15 m c))

/-! ## The result -/

theorem out_at (x : FVec Ideal S6144x1408 .bf16) (z : IVec S8 32) (w : Vec Ideal S8x5120x1408 .fp8e4m3) (s : FVec Ideal S8x40x11 .f32)
    (f : ℕ → ℕ) (hz : Sched.Holds z f) (hf : Sched.En f 7 = 6144) (r : Fin 6144) (d : Fin 5120) (n : Fin 8) (hn : Sched.rowGr f r.val = n.val) :
    out0_5 (clipV x) (grpV (endV z)) w (sFullV s) (scaleV (aV x)) (ix2 r d)
      = outE (fun k => x (ix2 r k)) (fun k => w (ix3 n d k)) (fun j => s (ix3 n ⟨d.val / 128, by omega⟩ j)) := by
  rw [out_apply _ _ _ _ _ r d n (by rw [grpV_apply z f hz hf r, hn])]
  unfold outE
  rw [scaleV_apply, aV_apply]
  refine congrArg (fun e : EReal => e * _) (Finset.sum_congr rfl fun k _ => ?_)
  rw [clipV_apply, sFullV_apply]

theorem arr_of_after (G : Vec Ideal S6144x5120 .bf16) (h : (dats m 0 c).after 5 (⟨0, by decide⟩ : Fin cfg0.N) = G) (r : Fin 6144) (d : Fin 5120) :
    (dats m 0 c).arrAt 5 cfg0.N (ix2 r d) = G (ix2 r d) := by
  refine ((dats m 0 c).arrAt_emb_eq_after_last 5 (⟨0, by decide⟩ : Fin cfg0.N) (by decide +kernel) (ix2 r d)).trans ?_
  rw [h]
  rfl

theorem arr_at (f : ℕ → ℕ) (hz : Sched.Holds (gszA m c) f) (hf : Sched.En f 7 = 6144) (r : Fin 6144) (d : Fin 5120) (n : Fin 8)
    (hn : Sched.rowGr f r.val = n.val) :
    (dats m 0 c).arrAt 5 cfg0.N (ix2 r d)
      = outE (fun k => dyA m c (ix2 r k)) (fun k => m ((c : Thread nD τ).loc main_arg2) (ix3 n d k)) (fun j => wscA m c (ix3 n ⟨d.val / 128, by omega⟩ j)) := by
  have h : (dats m 0 c).after 5 (⟨0, by decide⟩ : Fin cfg0.N)
      = out0_5 (clipV (dyA m c)) (grpV (endV (gszA m c))) (m ((c : Thread nD τ).loc main_arg2)) (sFullV (wscA m c)) (scaleV (aV (dyA m c))) := by
    rw [after0_5, iblk_0, iblk_1, iblk_2, iblk_3, iblk_4]
  exact (arr_of_after m c _ h r d).trans (out_at (dyA m c) (gszA m c) (m ((c : Thread nD τ).loc main_arg2)) (wscA m c) f hz hf r d n hn)

end Cert.ReferenceIdeal.Hand

end
-- ==== Proof.K.Equal.lean ====
/- The kernel and the reference give equal results over the extended reals: both are `Scale.outE` of the same rows, weights and scales. -/
module

public import proofs.«01_k».proof.Defs
public import proofs.«01_k».proof.Proof.K.Pre
public import proofs.«01_k».proof.Proof.K.Fits
public import proofs.«01_k».proof.Proof.K.Ref.Value
public import proofs.«01_k».proof.Proof.K.Ideal.Value
public import proofs.«01_k».proof.Proof.Gen.Pre_groups_fit_finite
public import proofs.«01_k».proof.Proof.Gen.ReferenceIdeal.Value

@[expose] public section

set_option maxRecDepth 16384

noncomputable section

namespace Cert.Equal

open Idealize.ShloMosaic Idealize.SL.Sem

/-- The kernel's result as one array. -/
def res (m : (ℓ : Loc KernelIdeal.nD KernelIdeal.τ KernelIdeal.sig) → Buf (Elt Ideal) ℓ) (f : ℕ → ℕ) (c : Dev KernelIdeal.nD) :
    FVec Ideal KernelIdeal.S6144x5120 .bf16 := fun i => KernelIdeal.Hand.outK m f c (i 0) (i 1)

theorem ext2 (X Y : FVec Ideal KernelIdeal.S6144x5120 .bf16) (h : ∀ (r : Fin 6144) (d : Fin 5120), X (ix2 r d) = Y (ix2 r d)) : X = Y := by
  funext i
  have e : i = ix2 (i 0 : Fin 6144) (i 1 : Fin 5120) := by
    funext a
    match a with
      | ⟨0, _⟩ => rfl
      | ⟨1, _⟩ => rfl
  rw [e]
  exact h _ _

/-- The reference's array is the kernel's result, where the arguments are the same. -/
theorem ref_eq (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD) (f : ℕ → ℕ)
    (hf : Sched.En f 7 = 6144) (hg : Sched.Holds (KernelIdeal.Hand.gsz m c) f)
    (h0 : ReferenceIdeal.Hand.dyA m' c = KernelIdeal.Hand.dyK m c) (h1 : ReferenceIdeal.Hand.gszA m' c = KernelIdeal.Hand.gsz m c)
    (h2 : (m' ((c.tc : Thread ReferenceIdeal.nD ReferenceIdeal.τ).loc ReferenceIdeal.main_arg2) : FVec Ideal ReferenceIdeal.S8x5120x1408 .fp8e4m3) = KernelIdeal.Hand.wK m c)
    (h3 : ReferenceIdeal.Hand.wscA m' c = KernelIdeal.Hand.sK m c) (r : Fin 6144) (d : Fin 5120) :
    (ReferenceIdeal.Gen.dats m' 0 c).arrAt 5 ReferenceIdeal.cfg0.N (ix2 r d) = KernelIdeal.Hand.outK m f c r d := by
  have hn : Sched.rowGr f r.val < 8 := (Sched.rowGr_spec (by rw [hf]; exact r.isLt)).1
  refine (ReferenceIdeal.Hand.arr_at m' c f (h1.symm ▸ hg) hf r d ⟨Sched.rowGr f r.val % 8, by omega⟩ (Nat.mod_eq_of_lt hn).symm).trans ?_
  rw [h0, h2, h3]
  rfl

theorem equal :
    Cert.algebraic_KernelIdeal_ReferenceIdeal_pre_groups_fit_finite (hKernelIdeal := Cert.KernelIdeal.Gen.facts) (hReferenceIdeal := Cert.ReferenceIdeal.Gen.facts) (hPre_groups_fit_finite := Cert.Pre_groups_fit_finite.Gen.facts) := by
  intro m g m' g' hp hm
  obtain ⟨f, hf, hg⟩ := sizes_KernelIdeal_finite (h := Cert.Pre_groups_fit_finite.Gen.facts) m hp
  have hO := KernelIdeal.Hand.ok m hf hg
  have hw := KernelIdeal.Hand.chk m hf hg
  have hx := fits_KernelIdeal (h := Cert.Pre_groups_fit_finite.Gen.facts) m hp
  refine ⟨res m f, ?_, ?_⟩
  · refine (θ_run _ _ _).mono (fun r h c => ⟨ext2 _ _ (h.1 c), h.2 c⟩)
      (θ_run_and (KernelIdeal.Hand.run_value m g hf hg hO hw hx)
        (KernelIdeal.Hand.unchanged m g (fun _ _ _ _ => True) hO hw (fun _ _ _ _ => trivial)))
  · refine (θ_run _ _ _).mono (fun r h c => ⟨(h c).1.trans (ext2 _ _ fun a b => ?_), (h c).2⟩) (ReferenceIdeal.Value.run_blocks m' g')
    exact ref_eq m m' c f hf (hg c) (hm c).1 (hm c).2.1 (hm c).2.2.1 (hm c).2.2.2 a b

end Cert.Equal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Launch
public import proofs.«01_k».proof.Proof.Gen.ReferenceIdeal
public import proofs.«01_k».proof.Proof.Gen.ReferenceIdeal.Frame
public import proofs.«01_k».proof.Proof.Gen.ReferenceIdeal.Value
public import proofs.«01_k».proof.Proof.Gen.Pre_groups_fit
public import proofs.«01_k».proof.Proof.Gen.Pre_groups_fit_finite
public import proofs.«01_k».proof.Proof.K.Pre
public import proofs.«01_k».proof.Proof.K.Equal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_groups_fit.Gen.facts, Cert.Pre_groups_fit_finite.Gen.facts,
  fun m g hp => by
    obtain ⟨f, hf, hg⟩ := sizes_Kernel m hp
    exact Cert.Kernel.Hand.frame m g (Cert.Kernel.Hand.ok m hf hg) (Cert.Kernel.Hand.chk m hf hg),
  fun m g hp => by
    obtain ⟨f, hf, hg⟩ := sizes_KernelIdeal m hp
    exact Cert.KernelIdeal.Hand.frame m g (Cert.KernelIdeal.Hand.ok m hf hg) (Cert.KernelIdeal.Hand.chk m hf hg),
  fun m g hp => by
    obtain ⟨f, hf, hg⟩ := sizes_KernelIdeal_finite m hp
    exact Cert.KernelIdeal.Hand.frame m g (Cert.KernelIdeal.Hand.ok m hf hg) (Cert.KernelIdeal.Hand.chk m hf hg),
  fun m g _ => Cert.ReferenceIdeal.Gen.frame m g,
  fun m g _ => Cert.ReferenceIdeal.Gen.frame m g,
  trivial,
  Cert.Equal.equal⟩

end Cert.Proof

end
